-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_splat_inputs [hPre_splat_inputs : Cert.Pre_splat_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_splat_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_splat_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_splat_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_splat_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_splat_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_splat_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_splat_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_splat_inputs [hPre_splat_inputs : Cert.Pre_splat_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_splat_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_splat_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_splat_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_splat_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_splat_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_splat_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_splat_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_splat_inputs [hKernelIdeal : Cert.KernelIdeal.Facts] [hPre_splat_inputs : Cert.Pre_splat_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_splat_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_splat_inputs [hReferenceIdeal : Cert.ReferenceIdeal.Facts] [hPre_splat_inputs : Cert.Pre_splat_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_splat_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mhl2e" .f32 0xBF38AA3B#32 (((-1 / 2) * (Real.log 2)⁻¹ : ℝ) : EReal)

def algebraic_KernelIdeal_ReferenceIdeal_pre_splat_inputs [hKernelIdeal : Cert.KernelIdeal.Facts] [hReferenceIdeal : Cert.ReferenceIdeal.Facts] [hPre_splat_inputs : Cert.Pre_splat_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_splat_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_splat_inputs : Cert.Pre_splat_inputs.Facts),
    quiescent_Kernel (hKernel := hKernel)
    ∧ quiescent_KernelIdeal (hKernelIdeal := hKernelIdeal)
    ∧ quiescent_KernelIdeal_pre_splat_inputs (hKernelIdeal := hKernelIdeal) (hPre_splat_inputs := hPre_splat_inputs)
    ∧ quiescent_ReferenceIdeal (hReferenceIdeal := hReferenceIdeal)
    ∧ quiescent_ReferenceIdeal_pre_splat_inputs (hReferenceIdeal := hReferenceIdeal) (hPre_splat_inputs := hPre_splat_inputs)
    ∧ preserves_Kernel_KernelIdeal
    ∧ algebraic_KernelIdeal_ReferenceIdeal_pre_splat_inputs (hKernelIdeal := hKernelIdeal) (hReferenceIdeal := hReferenceIdeal) (hPre_splat_inputs := hPre_splat_inputs)
-- ==== Pre_splat_inputs.lean ====
abbrev S80000x3 : Shape := ⟨2, ![80000, 3]⟩
abbrev S1x128x3 : Shape := ⟨3, ![1, 128, 3]⟩
abbrev S1x128x1 : Shape := ⟨3, ![1, 128, 1]⟩
abbrev S1x128x16 : Shape := ⟨3, ![1, 128, 16]⟩
abbrev S1x128x3x3 : Shape := ⟨4, ![1, 128, 3, 3]⟩
abbrev S100 : Shape := ⟨1, ![100]⟩
abbrev S_ : Shape := ⟨0, ![]⟩
abbrev S8 : Shape := ⟨1, ![8]⟩
abbrev S100x100x8 : Shape := ⟨3, ![100, 100, 8]⟩
abbrev S100x100x8x1 : Shape := ⟨4, ![100, 100, 8, 1]⟩
abbrev S100x100x8x3 : Shape := ⟨4, ![100, 100, 8, 3]⟩
abbrev S1x128x1x3 : Shape := ⟨4, ![1, 128, 1, 3]⟩
abbrev S1x128 : Shape := ⟨2, ![1, 128]⟩
abbrev S1x1x128 : Shape := ⟨3, ![1, 1, 128]⟩
abbrev S3x1x128 : Shape := ⟨3, ![3, 1, 128]⟩

class Facts : Prop where
  bcast_S_S100 : S_.BroadcastsInDim S100 (![] : Fin 0 → Fin S100.rank)
  bcast_S_S8 : S_.BroadcastsInDim S8 (![] : Fin 0 → Fin S8.rank)
  bcast_S100_S100x100x8_0 : S100.BroadcastsInDim S100x100x8 (![0] : Fin 1 → Fin S100x100x8.rank)
  bcast_S100_S100x100x8_1 : S100.BroadcastsInDim S100x100x8 (![1] : Fin 1 → Fin S100x100x8.rank)
  bcast_S8_S100x100x8_2 : S8.BroadcastsInDim S100x100x8 (![2] : Fin 1 → Fin S100x100x8.rank)
  bcast_S100x100x8_S100x100x8x1_0_1_2 : S100x100x8.BroadcastsInDim S100x100x8x1 (![0, 1, 2] : Fin 3 → Fin S100x100x8x1.rank)
  concatenates_S100x100x8x1_S100x100x8x1_S100x100x8x1_S100x100x8x3_d3 : Shape.Concatenates [S100x100x8x1, S100x100x8x1, S100x100x8x1] S100x100x8x3 3
  shapeCasts_S100x100x8x3_S80000x3 : S100x100x8x3.ShapeCasts S80000x3
  bcast_S_S1x128x3 : S_.BroadcastsInDim S1x128x3 (![] : Fin 0 → Fin S1x128x3.rank)
  bcast_S_S1x128x1 : S_.BroadcastsInDim S1x128x1 (![] : Fin 0 → Fin S1x128x1.rank)
  bcast_S_S1x128x16 : S_.BroadcastsInDim S1x128x16 (![] : Fin 0 → Fin S1x128x16.rank)
  bcast_S_S1x128x3x3 : S_.BroadcastsInDim S1x128x3x3 (![] : Fin 0 → Fin S1x128x3x3.rank)
  transposes_S1x128x3x3_S1x128x3x3_0_1_3_2 : S1x128x3x3.Transposes [0, 1, 3, 2] S1x128x3x3
  slices_S1x128x3x3_S1x128x1x3_0_0_0_0 : S1x128x3x3.Slices ![0, 0, 0, 0] S1x128x1x3
  shapeCasts_S1x128x1x3_S1x128x3 : S1x128x1x3.ShapeCasts S1x128x3
  slices_S1x128x3x3_S1x128x1x3_0_0_1_0 : S1x128x3x3.Slices ![0, 0, 1, 0] S1x128x1x3
  slices_S1x128x3x3_S1x128x1x3_0_0_2_0 : S1x128x3x3.Slices ![0, 0, 2, 0] S1x128x1x3
  slices_S1x128x3_S1x128x1_0_0_0 : S1x128x3.Slices ![0, 0, 0] S1x128x1
  shapeCasts_S1x128x1_S1x128 : S1x128x1.ShapeCasts S1x128
  slices_S1x128x3_S1x128x1_0_0_1 : S1x128x3.Slices ![0, 0, 1] S1x128x1
  slices_S1x128x3_S1x128x1_0_0_2 : S1x128x3.Slices ![0, 0, 2] S1x128x1
  bcast_S1x128_S1x1x128_1_2 : S1x128.BroadcastsInDim S1x1x128 (![1, 2] : Fin 2 → Fin S1x1x128.rank)
  concatenates_S1x1x128_S1x1x128_S1x1x128_S3x1x128_d0 : Shape.Concatenates [S1x1x128, S1x1x128, S1x1x128] S3x1x128 0
  transposes_S3x1x128_S1x128x3_1_2_0 : S3x1x128.Transposes [1, 2, 0] S1x128x3
  reducesTo_S1x128x3_S1x128_d2 : S1x128x3.ReducesTo [2] S1x128
  h_S_ : 0 < S_.numel
  bcast_S_S1x128 : S_.BroadcastsInDim S1x128 (![] : Fin 0 → Fin S1x128.rank)

variable [Facts]

def fn_cross_part1 {F : FTy → Type} [FloatOps F] (v21 : FVec F S1x1x128 .f32) (v22 : FVec F S1x1x128 .f32) (v23 : FVec F S1x1x128 .f32) : FVec F S1x128x3 .f32 :=
  let v24 : FVec F S3x1x128 .f32 := concatenate S3x1x128 0 [⟨S1x1x128, v21⟩, ⟨S1x1x128, v22⟩, ⟨S1x1x128, v23⟩] concatenates_S1x1x128_S1x1x128_S1x1x128_S3x1x128_d0
  let v25 : FVec F S1x128x3 .f32 := (transpose S1x128x3 [1, 2, 0] · transposes_S3x1x128_S1x128x3_1_2_0) v24
  v25

def fn_cross {F : FTy → Type} [FloatOps F] (arg0 : FVec F S1x128x3 .f32) (arg1 : FVec F S1x128x3 .f32) : FVec F S1x128x3 .f32 :=
  let v0 : FVec F S1x128x1 .f32 := (extractStridedSlice S1x128x1 ![0, 0, 0] · slices_S1x128x3_S1x128x1_0_0_0) arg0
  let v1 : FVec F S1x128 .f32 := shapeCast S1x128 v0 shapeCasts_S1x128x1_S1x128
  let v2 : FVec F S1x128x1 .f32 := (extractStridedSlice S1x128x1 ![0, 0, 1] · slices_S1x128x3_S1x128x1_0_0_1) arg0
  let v3 : FVec F S1x128 .f32 := shapeCast S1x128 v2 shapeCasts_S1x128x1_S1x128
  let v4 : FVec F S1x128x1 .f32 := (extractStridedSlice S1x128x1 ![0, 0, 2] · slices_S1x128x3_S1x128x1_0_0_2) arg0
  let v5 : FVec F S1x128 .f32 := shapeCast S1x128 v4 shapeCasts_S1x128x1_S1x128
  let v6 : FVec F S1x128x1 .f32 := (extractStridedSlice S1x128x1 ![0, 0, 0] · slices_S1x128x3_S1x128x1_0_0_0) arg1
  let v7 : FVec F S1x128 .f32 := shapeCast S1x128 v6 shapeCasts_S1x128x1_S1x128
  let v8 : FVec F S1x128x1 .f32 := (extractStridedSlice S1x128x1 ![0, 0, 1] · slices_S1x128x3_S1x128x1_0_0_1) arg1
  let v9 : FVec F S1x128 .f32 := shapeCast S1x128 v8 shapeCasts_S1x128x1_S1x128
  let v10 : FVec F S1x128x1 .f32 := (extractStridedSlice S1x128x1 ![0, 0, 2] · slices_S1x128x3_S1x128x1_0_0_2) arg1
  let v11 : FVec F S1x128 .f32 := shapeCast S1x128 v10 shapeCasts_S1x128x1_S1x128
  let v12 : FVec F S1x128 .f32 := mulf v3 v11
  let v13 : FVec F S1x128 .f32 := mulf v5 v9
  let v14 : FVec F S1x128 .f32 := subf v12 v13
  let v15 : FVec F S1x128 .f32 := mulf v5 v7
  let v16 : FVec F S1x128 .f32 := mulf v1 v11
  let v17 : FVec F S1x128 .f32 := subf v15 v16
  let v18 : FVec F S1x128 .f32 := mulf v1 v9
  let v19 : FVec F S1x128 .f32 := mulf v3 v7
  let v20 : FVec F S1x128 .f32 := subf v18 v19
  let v21 : FVec F S1x1x128 .f32 := broadcastInDim S1x1x128 ![1, 2] bcast_S1x128_S1x1x128_1_2 v14
  let v22 : FVec F S1x1x128 .f32 := broadcastInDim S1x1x128 ![1, 2] bcast_S1x128_S1x1x128_1_2 v17
  let v23 : FVec F S1x1x128 .f32 := broadcastInDim S1x1x128 ![1, 2] bcast_S1x128_S1x1x128_1_2 v20
  fn_cross_part1 (F := F) v21 v22 v23

def fn_part2 {F : FTy → Type} [FloatOps F] (main_arg4 : FVec F S1x128x3x3 .f32) (main_v29 : IVec S80000x3 1) (main_v32 : IVec S1x128x3 1) (main_v35 : IVec S1x128x1 1) (main_v36 : FVec F S1x128x16 .f32) : IVec S80000x3 1 × IVec S1x128x3 1 × IVec S1x128x1 1 × IVec S1x128x16 1 × IVec S1x128x3x3 1 × IVec S1x128x3x3 1 × IVec S1x128 1 :=
  let main_cst_10 : FVec F S_ .f32 := constant S_ .f32 0x7F800000#32
  let main_v37 : FVec F S1x128x16 .f32 := broadcastInDim S1x128x16 ![] bcast_S_S1x128x16 main_cst_10
  let main_v38 : IVec S1x128x16 1 := cmpf .olt main_v36 main_v37
  let main_v39 : FVec F S1x128x3x3 .f32 := Host.absf main_arg4
  let main_cst_11 : FVec F S_ .f32 := constant S_ .f32 0x7F800000#32
  let main_v40 : FVec F S1x128x3x3 .f32 := broadcastInDim S1x128x3x3 ![] bcast_S_S1x128x3x3 main_cst_11
  let main_v41 : IVec S1x128x3x3 1 := cmpf .olt main_v39 main_v40
  let main_v42 : FVec F S1x128x3x3 .f32 := (transpose S1x128x3x3 [0, 1, 3, 2] · transposes_S1x128x3x3_S1x128x3x3_0_1_3_2) main_arg4
  let main_v43 : IVec S1x128x3x3 1 := cmpf .oeq main_arg4 main_v42
  let main_v44 : FVec F S1x128x1x3 .f32 := (extractStridedSlice S1x128x1x3 ![0, 0, 0, 0] · slices_S1x128x3x3_S1x128x1x3_0_0_0_0) main_arg4
  let main_v45 : FVec F S1x128x3 .f32 := shapeCast S1x128x3 main_v44 shapeCasts_S1x128x1x3_S1x128x3
  let main_v46 : FVec F S1x128x1x3 .f32 := (extractStridedSlice S1x128x1x3 ![0, 0, 1, 0] · slices_S1x128x3x3_S1x128x1x3_0_0_1_0) main_arg4
  let main_v47 : FVec F S1x128x3 .f32 := shapeCast S1x128x3 main_v46 shapeCasts_S1x128x1x3_S1x128x3
  let main_v48 : FVec F S1x128x1x3 .f32 := (extractStridedSlice S1x128x1x3 ![0, 0, 2, 0] · slices_S1x128x3x3_S1x128x1x3_0_0_2_0) main_arg4
  let main_v49 : FVec F S1x128x3 .f32 := shapeCast S1x128x3 main_v48 shapeCasts_S1x128x1x3_S1x128x3
  let main_v50 : FVec F S1x128x3 .f32 := fn_cross (F := F) main_v47 main_v49
  let main_v51 : FVec F S1x128x3 .f32 := mulf main_v45 main_v50
  let main_cst_12 : FVec F S_ .f32 := constant S_ .f32 0x00000000#32
  let main_v52 : FVec F S1x128 .f32 := (fun x v => Host.reduceAdd x v reducesTo_S1x128x3_S1x128_d2 h_S_) main_v51 main_cst_12
  let main_cst_13 : FVec F S_ .f32 := constant S_ .f32 0x00000000#32
  let main_v53 : FVec F S1x128 .f32 := broadcastInDim S1x128 ![] bcast_S_S1x128 main_cst_13
  let main_v54 : IVec S1x128 1 := cmpf .une main_v52 main_v53
  (main_v29, main_v32, main_v35, main_v38, main_v41, main_v43, main_v54)

def fn_part1 {F : FTy → Type} [FloatOps F] (main_arg0 : FVec F S80000x3 .f32) (main_arg1 : FVec F S1x128x3 .f32) (main_arg2 : FVec F S1x128x1 .f32) (main_arg3 : FVec F S1x128x16 .f32) (main_arg4 : FVec F S1x128x3x3 .f32) (main_v6 : FVec F S100 .f32) (main_v13 : FVec F S100 .f32) (main_v16 : FVec F S8 .f32) : IVec S80000x3 1 × IVec S1x128x3 1 × IVec S1x128x1 1 × IVec S1x128x16 1 × IVec S1x128x3x3 1 × IVec S1x128x3x3 1 × IVec S1x128 1 :=
  let main_cst_6 : FVec F S_ .f32 := constant S_ .f32 0x3F4CCCCD#32
  let main_v17 : FVec F S8 .f32 := broadcastInDim S8 ![] bcast_S_S8 main_cst_6
  let main_v18 : FVec F S8 .f32 := mulf main_v16 main_v17
  let main_cst_7 : FVec F S_ .f32 := constant S_ .f32 0xBF800000#32
  let main_v19 : FVec F S8 .f32 := broadcastInDim S8 ![] bcast_S_S8 main_cst_7
  let main_v20 : FVec F S8 .f32 := addf main_v18 main_v19
  let main_v21 : FVec F S100x100x8 .f32 := broadcastInDim S100x100x8 ![0] bcast_S100_S100x100x8_0 main_v6
  let main_v22 : FVec F S100x100x8 .f32 := broadcastInDim S100x100x8 ![1] bcast_S100_S100x100x8_1 main_v13
  let main_v23 : FVec F S100x100x8 .f32 := broadcastInDim S100x100x8 ![2] bcast_S8_S100x100x8_2 main_v20
  let main_v24 : FVec F S100x100x8x1 .f32 := broadcastInDim S100x100x8x1 ![0, 1, 2] bcast_S100x100x8_S100x100x8x1_0_1_2 main_v21
  let main_v25 : FVec F S100x100x8x1 .f32 := broadcastInDim S100x100x8x1 ![0, 1, 2] bcast_S100x100x8_S100x100x8x1_0_1_2 main_v22
  let main_v26 : FVec F S100x100x8x1 .f32 := broadcastInDim S100x100x8x1 ![0, 1, 2] bcast_S100x100x8_S100x100x8x1_0_1_2 main_v23
  let main_v27 : FVec F S100x100x8x3 .f32 := concatenate S100x100x8x3 3 [⟨S100x100x8x1, main_v24⟩, ⟨S100x100x8x1, main_v25⟩, ⟨S100x100x8x1, main_v26⟩] concatenates_S100x100x8x1_S100x100x8x1_S100x100x8x1_S100x100x8x3_d3
  let main_v28 : FVec F S80000x3 .f32 := shapeCast S80000x3 main_v27 shapeCasts_S100x100x8x3_S80000x3
  let main_v29 : IVec S80000x3 1 := cmpf .oeq main_arg0 main_v28
  let main_v30 : FVec F S1x128x3 .f32 := Host.absf main_arg1
  let main_cst_8 : FVec F S_ .f32 := constant S_ .f32 0x7F800000#32
  let main_v31 : FVec F S1x128x3 .f32 := broadcastInDim S1x128x3 ![] bcast_S_S1x128x3 main_cst_8
  let main_v32 : IVec S1x128x3 1 := cmpf .olt main_v30 main_v31
  let main_v33 : FVec F S1x128x1 .f32 := Host.absf main_arg2
  let main_cst_9 : FVec F S_ .f32 := constant S_ .f32 0x7F800000#32
  let main_v34 : FVec F S1x128x1 .f32 := broadcastInDim S1x128x1 ![] bcast_S_S1x128x1 main_cst_9
  let main_v35 : IVec S1x128x1 1 := cmpf .olt main_v33 main_v34
  let main_v36 : FVec F S1x128x16 .f32 := Host.absf main_arg3
  fn_part2 (F := F) main_arg4 main_v29 main_v32 main_v35 main_v36

def fn {F : FTy → Type} [FloatOps F] (main_arg0 : FVec F S80000x3 .f32) (main_arg1 : FVec F S1x128x3 .f32) (main_arg2 : FVec F S1x128x1 .f32) (main_arg3 : FVec F S1x128x16 .f32) (main_arg4 : FVec F S1x128x3x3 .f32) : IVec S80000x3 1 × IVec S1x128x3 1 × IVec S1x128x1 1 × IVec S1x128x16 1 × IVec S1x128x3x3 1 × IVec S1x128x3x3 1 × IVec S1x128 1 :=
  let main_v0 : FVec F S100 .f32 := sitofp .f32 (iotaInDim S100 32 0)
  let main_cst : FVec F S_ .f32 := constant S_ .f32 0x3F000000#32
  let main_v1 : FVec F S100 .f32 := broadcastInDim S100 ![] bcast_S_S100 main_cst
  let main_v2 : FVec F S100 .f32 := addf main_v0 main_v1
  let main_cst_0 : FVec F S_ .f32 := constant S_ .f32 0x3F4CCCCD#32
  let main_v3 : FVec F S100 .f32 := broadcastInDim S100 ![] bcast_S_S100 main_cst_0
  let main_v4 : FVec F S100 .f32 := mulf main_v2 main_v3
  let main_cst_1 : FVec F S_ .f32 := constant S_ .f32 0xC2200000#32
  let main_v5 : FVec F S100 .f32 := broadcastInDim S100 ![] bcast_S_S100 main_cst_1
  let main_v6 : FVec F S100 .f32 := addf main_v4 main_v5
  let main_v7 : FVec F S100 .f32 := sitofp .f32 (iotaInDim S100 32 0)
  let main_cst_2 : FVec F S_ .f32 := constant S_ .f32 0x3F000000#32
  let main_v8 : FVec F S100 .f32 := broadcastInDim S100 ![] bcast_S_S100 main_cst_2
  let main_v9 : FVec F S100 .f32 := addf main_v7 main_v8
  let main_cst_3 : FVec F S_ .f32 := constant S_ .f32 0x3F4CCCCD#32
  let main_v10 : FVec F S100 .f32 := broadcastInDim S100 ![] bcast_S_S100 main_cst_3
  let main_v11 : FVec F S100 .f32 := mulf main_v9 main_v10
  let main_cst_4 : FVec F S_ .f32 := constant S_ .f32 0xC2200000#32
  let main_v12 : FVec F S100 .f32 := broadcastInDim S100 ![] bcast_S_S100 main_cst_4
  let main_v13 : FVec F S100 .f32 := addf main_v11 main_v12
  let main_v14 : FVec F S8 .f32 := sitofp .f32 (iotaInDim S8 32 0)
  let main_cst_5 : FVec F S_ .f32 := constant S_ .f32 0x3F000000#32
  let main_v15 : FVec F S8 .f32 := broadcastInDim S8 ![] bcast_S_S8 main_cst_5
  let main_v16 : FVec F S8 .f32 := addf main_v14 main_v15
  fn_part1 (F := F) main_arg0 main_arg1 main_arg2 main_arg3 main_arg4 main_v6 main_v13 main_v16
-- ==== Kernel.lean ====
abbrev S80000x3 : Shape := ⟨2, ![80000, 3]⟩
abbrev S1x128x3 : Shape := ⟨3, ![1, 128, 3]⟩
abbrev S1x128x1 : Shape := ⟨3, ![1, 128, 1]⟩
abbrev S1x128x16 : Shape := ⟨3, ![1, 128, 16]⟩
abbrev S1x128x3x3 : Shape := ⟨4, ![1, 128, 3, 3]⟩
abbrev S128x16 : Shape := ⟨2, ![128, 16]⟩
abbrev S128x3 : Shape := ⟨2, ![128, 3]⟩
abbrev S128x1 : Shape := ⟨2, ![128, 1]⟩
abbrev S128x9 : Shape := ⟨2, ![128, 9]⟩
abbrev S128x29 : Shape := ⟨2, ![128, 29]⟩
abbrev S625x1x128 : Shape := ⟨3, ![625, 1, 128]⟩
abbrev S16x80000 : Shape := ⟨2, ![16, 80000]⟩
abbrev S125x1x128 : Shape := ⟨3, ![125, 1, 128]⟩
abbrev S16x16000 : Shape := ⟨2, ![16, 16000]⟩
abbrev S128x17 : Shape := ⟨2, ![128, 17]⟩
abbrev S1x128 : Shape := ⟨2, ![1, 128]⟩
abbrev S128x128 : Shape := ⟨2, ![128, 128]⟩
abbrev S17x128 : Shape := ⟨2, ![17, 128]⟩
abbrev S1x1x128 : Shape := ⟨3, ![1, 1, 128]⟩
abbrev S16x128 : Shape := ⟨2, ![16, 128]⟩
abbrev S1x100x100x8x1 : Shape := ⟨5, ![1, 100, 100, 8, 1]⟩
abbrev S16x1x100x100x8 : Shape := ⟨5, ![16, 1, 100, 100, 8]⟩
abbrev S1x100x100x8x16 : Shape := ⟨5, ![1, 100, 100, 8, 16]⟩

abbrev nBuf : Space → Nat
  | .hbm => 15
  | .vmem => 5
  | .smem => 0
  | _ => 0

abbrev bufTy : (tb : Table) → Fin (tcTables nBuf tb) → BufTy
  | .hbm, ⟨0, _⟩ => ⟨S80000x3, .f32⟩
  | .hbm, ⟨1, _⟩ => ⟨S1x128x3, .f32⟩
  | .hbm, ⟨2, _⟩ => ⟨S1x128x1, .f32⟩
  | .hbm, ⟨3, _⟩ => ⟨S1x128x16, .f32⟩
  | .hbm, ⟨4, _⟩ => ⟨S1x128x3x3, .f32⟩
  | .hbm, ⟨5, _⟩ => ⟨S128x16, .f32⟩
  | .hbm, ⟨6, _⟩ => ⟨S128x3, .f32⟩
  | .hbm, ⟨7, _⟩ => ⟨S128x1, .f32⟩
  | .hbm, ⟨8, _⟩ => ⟨S128x9, .f32⟩
  | .hbm, ⟨9, _⟩ => ⟨S128x29, .f32⟩
  | .hbm, ⟨10, _⟩ => ⟨S625x1x128, .f32⟩
  | .hbm, ⟨11, _⟩ => ⟨S16x80000, .f32⟩
  | .hbm, ⟨12, _⟩ => ⟨S1x100x100x8x1, .f32⟩
  | .hbm, ⟨13, _⟩ => ⟨S16x1x100x100x8, .f32⟩
  | .hbm, ⟨14, _⟩ => ⟨S1x100x100x8x16, .f32⟩
  | .local _ .vmem, ⟨0, _⟩ => ⟨S128x29, .f32⟩
  | .local _ .vmem, ⟨1, _⟩ => ⟨S125x1x128, .f32⟩
  | .local _ .vmem, ⟨2, _⟩ => ⟨S125x1x128, .f32⟩
  | .local _ .vmem, ⟨3, _⟩ => ⟨S16x16000, .f32⟩
  | .local _ .vmem, ⟨4, _⟩ => ⟨S16x16000, .f32⟩
  | _, _ => ⟨S80000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x29 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S125x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "mhl2e" => some (((-1 / 2) * (Real.log 2)⁻¹ : ℝ) : EReal)
  | _ => none
-- ==== ReferenceIdeal.lean ====
abbrev S80000x3 : Shape := ⟨2, ![80000, 3]⟩
abbrev S1x128x3 : Shape := ⟨3, ![1, 128, 3]⟩
abbrev S1x128x1 : Shape := ⟨3, ![1, 128, 1]⟩
abbrev S1x128x16 : Shape := ⟨3, ![1, 128, 16]⟩
abbrev S1x128x3x3 : Shape := ⟨4, ![1, 128, 3, 3]⟩
abbrev S_ : Shape := ⟨0, ![]⟩
abbrev S1x80000x1 : Shape := ⟨3, ![1, 80000, 1]⟩
abbrev S1x80000x16 : Shape := ⟨3, ![1, 80000, 16]⟩
abbrev S128x1x3 : Shape := ⟨3, ![128, 1, 3]⟩
abbrev S128x1x1 : Shape := ⟨3, ![128, 1, 1]⟩
abbrev S128x1x3x3 : Shape := ⟨4, ![128, 1, 3, 3]⟩
abbrev S128x1x16 : Shape := ⟨3, ![128, 1, 16]⟩
abbrev S1x1x3 : Shape := ⟨3, ![1, 1, 3]⟩
abbrev S1x3 : Shape := ⟨2, ![1, 3]⟩
abbrev S1x1x1 : Shape := ⟨3, ![1, 1, 1]⟩
abbrev S1x1 : Shape := ⟨2, ![1, 1]⟩
abbrev S1x1x3x3 : Shape := ⟨4, ![1, 1, 3, 3]⟩
abbrev S1x3x3 : Shape := ⟨3, ![1, 3, 3]⟩
abbrev S1x1x16 : Shape := ⟨3, ![1, 1, 16]⟩
abbrev S1x16 : Shape := ⟨2, ![1, 16]⟩
abbrev S1x80000x3 : Shape := ⟨3, ![1, 80000, 3]⟩
abbrev S1 : Shape := ⟨1, ![1]⟩
abbrev S3x1 : Shape := ⟨2, ![3, 1]⟩
abbrev S1x3x1 : Shape := ⟨3, ![1, 3, 1]⟩
abbrev S1x3x80000 : Shape := ⟨3, ![1, 3, 80000]⟩
abbrev S1x80000 : Shape := ⟨2, ![1, 80000]⟩
abbrev S1x100x100x8x1 : Shape := ⟨5, ![1, 100, 100, 8, 1]⟩
abbrev S1x100x100x8x16 : Shape := ⟨5, ![1, 100, 100, 8, 16]⟩

abbrev nBuf : Space → Nat
  | .hbm => 212
  | .vmem => 0
  | .smem => 0
  | _ => 0

abbrev hbmTy0_0 (i : Nat) : BufTy := match i % 128 with
  | 0 => ⟨S80000x3, .f32⟩
  | 1 => ⟨S1x128x3, .f32⟩
  | 2 => ⟨S1x128x1, .f32⟩
  | 3 => ⟨S1x128x16, .f32⟩
  | 4 => ⟨S1x128x3x3, .f32⟩
  | 5 => ⟨S_, .f32⟩
  | 6 => ⟨S1x80000x1, .f32⟩
  | 7 => ⟨S_, .f32⟩
  | 8 => ⟨S1x80000x16, .f32⟩
  | 9 => ⟨S_, .f32⟩
  | 10 => ⟨S1x80000x1, .f32⟩
  | 11 => ⟨S128x1x3, .f32⟩
  | 12 => ⟨S128x1x1, .f32⟩
  | 13 => ⟨S128x1x3x3, .f32⟩
  | 14 => ⟨S128x1x16, .f32⟩
  | 15 => ⟨S_, .i32⟩
  | 16 => ⟨S128x1x3, .f32⟩
  | 17 => ⟨S128x1x1, .f32⟩
  | 18 => ⟨S128x1x3x3, .f32⟩
  | 19 => ⟨S128x1x16, .f32⟩
  | 20 => ⟨S80000x3, .f32⟩
  | 21 => ⟨S_, .i32⟩
  | 22 => ⟨S1x80000x1, .f32⟩
  | 23 => ⟨S1x80000x16, .f32⟩
  | 24 => ⟨S1x80000x1, .f32⟩
  | 25 => ⟨S_, .i32⟩
  | 26 => ⟨S_, .i1⟩
  | 27 => ⟨S_, .i32⟩
  | 28 => ⟨S_, .i32⟩
  | 29 => ⟨S1x1x3, .f32⟩
  | 30 => ⟨S1x3, .f32⟩
  | 31 => ⟨S_, .i32⟩
  | 32 => ⟨S_, .i32⟩
  | 33 => ⟨S1x1x1, .f32⟩
  | 34 => ⟨S1x1, .f32⟩
  | 35 => ⟨S_, .i32⟩
  | 36 => ⟨S_, .i32⟩
  | 37 => ⟨S_, .i32⟩
  | 38 => ⟨S1x1x3x3, .f32⟩
  | 39 => ⟨S1x3x3, .f32⟩
  | 40 => ⟨S_, .i32⟩
  | 41 => ⟨S_, .i32⟩
  | 42 => ⟨S1x1x16, .f32⟩
  | 43 => ⟨S1x16, .f32⟩
  | 44 => ⟨S1x80000x3, .f32⟩
  | 45 => ⟨S1x1x3, .f32⟩
  | 46 => ⟨S1x80000x3, .f32⟩
  | 47 => ⟨S1x80000x3, .f32⟩
  | 48 => ⟨S1x1x3, .f32⟩
  | 49 => ⟨S1x3, .f32⟩
  | 50 => ⟨S1x1x3, .f32⟩
  | 51 => ⟨S1x3, .f32⟩
  | 52 => ⟨S1x1x3, .f32⟩
  | 53 => ⟨S1x3, .f32⟩
  | 54 => ⟨S1x1, .f32⟩
  | 55 => ⟨S1, .f32⟩
  | 56 => ⟨S1x1, .f32⟩
  | 57 => ⟨S1, .f32⟩
  | 58 => ⟨S1x1, .f32⟩
  | 59 => ⟨S1, .f32⟩
  | 60 => ⟨S1x1, .f32⟩
  | 61 => ⟨S1, .f32⟩
  | 62 => ⟨S1x1, .f32⟩
  | 63 => ⟨S1, .f32⟩
  | 64 => ⟨S1x1, .f32⟩
  | 65 => ⟨S1, .f32⟩
  | 66 => ⟨S1, .f32⟩
  | 67 => ⟨S1, .f32⟩
  | 68 => ⟨S1, .f32⟩
  | 69 => ⟨S1, .f32⟩
  | 70 => ⟨S1, .f32⟩
  | 71 => ⟨S1, .f32⟩
  | 72 => ⟨S1, .f32⟩
  | 73 => ⟨S1, .f32⟩
  | 74 => ⟨S1, .f32⟩
  | 75 => ⟨S1x1, .f32⟩
  | 76 => ⟨S1x1, .f32⟩
  | 77 => ⟨S1x1, .f32⟩
  | 78 => ⟨S3x1, .f32⟩
  | 79 => ⟨S1x3, .f32⟩
  | 80 => ⟨S1x1, .f32⟩
  | 81 => ⟨S1, .f32⟩
  | 82 => ⟨S1x1, .f32⟩
  | 83 => ⟨S1, .f32⟩
  | 84 => ⟨S1x1, .f32⟩
  | 85 => ⟨S1, .f32⟩
  | 86 => ⟨S1x1, .f32⟩
  | 87 => ⟨S1, .f32⟩
  | 88 => ⟨S1x1, .f32⟩
  | 89 => ⟨S1, .f32⟩
  | 90 => ⟨S1x1, .f32⟩
  | 91 => ⟨S1, .f32⟩
  | 92 => ⟨S1, .f32⟩
  | 93 => ⟨S1, .f32⟩
  | 94 => ⟨S1, .f32⟩
  | 95 => ⟨S1, .f32⟩
  | 96 => ⟨S1, .f32⟩
  | 97 => ⟨S1, .f32⟩
  | 98 => ⟨S1, .f32⟩
  | 99 => ⟨S1, .f32⟩
  | 100 => ⟨S1, .f32⟩
  | 101 => ⟨S1x1, .f32⟩
  | 102 => ⟨S1x1, .f32⟩
  | 103 => ⟨S1x1, .f32⟩
  | 104 => ⟨S3x1, .f32⟩
  | 105 => ⟨S1x3, .f32⟩
  | 106 => ⟨S1x1, .f32⟩
  | 107 => ⟨S1, .f32⟩
  | 108 => ⟨S1x1, .f32⟩
  | 109 => ⟨S1, .f32⟩
  | 110 => ⟨S1x1, .f32⟩
  | 111 => ⟨S1, .f32⟩
  | 112 => ⟨S1x1, .f32⟩
  | 113 => ⟨S1, .f32⟩
  | 114 => ⟨S1x1, .f32⟩
  | 115 => ⟨S1, .f32⟩
  | 116 => ⟨S1x1, .f32⟩
  | 117 => ⟨S1, .f32⟩
  | 118 => ⟨S1, .f32⟩
  | 119 => ⟨S1, .f32⟩
  | 120 => ⟨S1, .f32⟩
  | 121 => ⟨S1, .f32⟩
  | 122 => ⟨S1, .f32⟩
  | 123 => ⟨S1, .f32⟩
  | 124 => ⟨S1, .f32⟩
  | 125 => ⟨S1, .f32⟩
  | 126 => ⟨S1, .f32⟩
  | 127 => ⟨S1x1, .f32⟩
  | _ => ⟨S80000x3, .f32⟩

abbrev hbmTy0_1 (i : Nat) : BufTy := match i % 128 with
  | 0 => ⟨S1x1, .f32⟩
  | 1 => ⟨S1x1, .f32⟩
  | 2 => ⟨S3x1, .f32⟩
  | 3 => ⟨S1x3, .f32⟩
  | 4 => ⟨S1x3x1, .f32⟩
  | 5 => ⟨S1x3x1, .f32⟩
  | 6 => ⟨S1x3x1, .f32⟩
  | 7 => ⟨S1x3x3, .f32⟩
  | 8 => ⟨S1x1x3, .f32⟩
  | 9 => ⟨S1x3, .f32⟩
  | 10 => ⟨S1x1x3, .f32⟩
  | 11 => ⟨S1x3, .f32⟩
  | 12 => ⟨S1x1x3, .f32⟩
  | 13 => ⟨S1x3, .f32⟩
  | 14 => ⟨S1x1, .f32⟩
  | 15 => ⟨S1, .f32⟩
  | 16 => ⟨S1x1, .f32⟩
  | 17 => ⟨S1, .f32⟩
  | 18 => ⟨S1x1, .f32⟩
  | 19 => ⟨S1, .f32⟩
  | 20 => ⟨S1x1, .f32⟩
  | 21 => ⟨S1, .f32⟩
  | 22 => ⟨S1x1, .f32⟩
  | 23 => ⟨S1, .f32⟩
  | 24 => ⟨S1x1, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S1, .f32⟩
  | 33 => ⟨S1, .f32⟩
  | 34 => ⟨S1, .f32⟩
  | 35 => ⟨S1x1, .f32⟩
  | 36 => ⟨S1x1, .f32⟩
  | 37 => ⟨S1x1, .f32⟩
  | 38 => ⟨S3x1, .f32⟩
  | 39 => ⟨S1x3, .f32⟩
  | 40 => ⟨S1x3, .f32⟩
  | 41 => ⟨S_, .f32⟩
  | 42 => ⟨S1, .f32⟩
  | 43 => ⟨S1x1x1, .f32⟩
  | 44 => ⟨S1x3x3, .f32⟩
  | 45 => ⟨S1x3x3, .f32⟩
  | 46 => ⟨S1x3x80000, .f32⟩
  | 47 => ⟨S1x80000, .f32⟩
  | 48 => ⟨S1x80000x1, .f32⟩
  | 49 => ⟨S_, .f32⟩
  | 50 => ⟨S1x80000x1, .f32⟩
  | 51 => ⟨S1x80000x1, .i1⟩
  | 52 => ⟨S1x80000x1, .f32⟩
  | 53 => ⟨S1x80000x1, .f32⟩
  | 54 => ⟨S_, .f32⟩
  | 55 => ⟨S1x80000x1, .f32⟩
  | 56 => ⟨S1x80000x1, .f32⟩
  | 57 => ⟨S_, .f32⟩
  | 58 => ⟨S1x80000x1, .f32⟩
  | 59 => ⟨S1x80000x1, .f32⟩
  | 60 => ⟨S1x80000x1, .f32⟩
  | 61 => ⟨S1x1x1, .f32⟩
  | 62 => ⟨S1x80000x1, .f32⟩
  | 63 => ⟨S1x80000x1, .f32⟩
  | 64 => ⟨S1x80000x1, .f32⟩
  | 65 => ⟨S1x80000x1, .f32⟩
  | 66 => ⟨S1x80000x1, .f32⟩
  | 67 => ⟨S1x80000x1, .f32⟩
  | 68 => ⟨S1x16, .f32⟩
  | 69 => ⟨S1x16, .f32⟩
  | 70 => ⟨S1x1x16, .f32⟩
  | 71 => ⟨S1x80000x16, .f32⟩
  | 72 => ⟨S1x80000x16, .f32⟩
  | 73 => ⟨S1x80000x16, .f32⟩
  | 74 => ⟨S1x80000x16, .f32⟩
  | 75 => ⟨S1x80000x16, .f32⟩
  | 76 => ⟨S1x80000x16, .f32⟩
  | 77 => ⟨S1x80000x16, .f32⟩
  | 78 => ⟨S1x80000x16, .f32⟩
  | 79 => ⟨S1x80000x16, .f32⟩
  | 80 => ⟨S_, .i32⟩
  | 81 => ⟨S_, .i32⟩
  | 82 => ⟨S1x100x100x8x1, .f32⟩
  | 83 => ⟨S1x100x100x8x16, .f32⟩
  | _ => ⟨S80000x3, .f32⟩

abbrev hbmTy (i : Nat) : BufTy := match i / 128 with
  | 0 => hbmTy0_0 i
  | 1 => hbmTy0_1 i
  | _ => ⟨S80000x3, .f32⟩

abbrev bufTy : (tb : Table) → Fin (tcTables nBuf tb) → BufTy
  | .hbm, ⟨i, _⟩ => hbmTy i
  | _, _ => ⟨S80000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_v7_8 : Ref sig .tc := ⟨.hbm, 24, rfl⟩
abbrev main_while0c_c_10 : Ref sig .tc := ⟨.hbm, 25, rfl⟩
abbrev main_while0c_v10 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v10 : Ref sig .tc := ⟨.hbm, 30, rfl⟩
abbrev main_while0b_call1_c : Ref sig .tc := ⟨.hbm, 31, rfl⟩
abbrev main_while0b_call1_c_0 : Ref sig .tc := ⟨.hbm, 32, rfl⟩
abbrev main_while0b_call1_v0 : Ref sig .tc := ⟨.hbm, 33, rfl⟩
abbrev main_while0b_v11 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_call2_c_1 : Ref sig .tc := ⟨.hbm, 37, rfl⟩
abbrev main_while0b_call2_v0 : Ref sig .tc := ⟨.hbm, 38, rfl⟩
abbrev main_while0b_v12 : Ref sig .tc := ⟨.hbm, 39, rfl⟩
abbrev main_while0b_call3_c : Ref sig .tc := ⟨.hbm, 40, rfl⟩
abbrev main_while0b_call3_c_0 : Ref sig .tc := ⟨.hbm, 41, rfl⟩
abbrev main_while0b_call3_v0 : Ref sig .tc := ⟨.hbm, 42, rfl⟩
abbrev main_while0b_v13 : Ref sig .tc := ⟨.hbm, 43, rfl⟩
abbrev main_while0b_v14 : Ref sig .tc := ⟨.hbm, 44, rfl⟩
abbrev main_while0b_v15 : Ref sig .tc := ⟨.hbm, 45, rfl⟩
abbrev main_while0b_v16 : Ref sig .tc := ⟨.hbm, 46, rfl⟩
abbrev main_while0b_v17 : Ref sig .tc := ⟨.hbm, 47, rfl⟩
abbrev main_while0b_v18 : Ref sig .tc := ⟨.hbm, 48, rfl⟩
abbrev main_while0b_v19 : Ref sig .tc := ⟨.hbm, 49, rfl⟩
abbrev main_while0b_v20 : Ref sig .tc := ⟨.hbm, 50, rfl⟩
abbrev main_while0b_v21 : Ref sig .tc := ⟨.hbm, 51, rfl⟩
abbrev main_while0b_v22 : Ref sig .tc := ⟨.hbm, 52, rfl⟩
abbrev main_while0b_v23 : Ref sig .tc := ⟨.hbm, 53, rfl⟩
abbrev main_while0b_call4_v0 : Ref sig .tc := ⟨.hbm, 54, rfl⟩
abbrev main_while0b_call4_v1 : Ref sig .tc := ⟨.hbm, 55, rfl⟩
abbrev main_while0b_call4_v2 : Ref sig .tc := ⟨.hbm, 56, rfl⟩
abbrev main_while0b_call4_v3 : Ref sig .tc := ⟨.hbm, 57, rfl⟩
abbrev main_while0b_call4_v4 : Ref sig .tc := ⟨.hbm, 58, rfl⟩
abbrev main_while0b_call4_v5 : Ref sig .tc := ⟨.hbm, 59, rfl⟩
abbrev main_while0b_call4_v6 : Ref sig .tc := ⟨.hbm, 60, rfl⟩
abbrev main_while0b_call4_v7 : Ref sig .tc := ⟨.hbm, 61, rfl⟩
abbrev main_while0b_call4_v8 : Ref sig .tc := ⟨.hbm, 62, rfl⟩
abbrev main_while0b_call4_v9 : Ref sig .tc := ⟨.hbm, 63, rfl⟩
abbrev main_while0b_call4_v10 : Ref sig .tc := ⟨.hbm, 64, rfl⟩
abbrev main_while0b_call4_v11 : Ref sig .tc := ⟨.hbm, 65, rfl⟩
abbrev main_while0b_call4_v12 : Ref sig .tc := ⟨.hbm, 66, rfl⟩
abbrev main_while0b_call4_v13 : Ref sig .tc := ⟨.hbm, 67, rfl⟩
abbrev main_while0b_call4_v14 : Ref sig .tc := ⟨.hbm, 68, rfl⟩
abbrev main_while0b_call4_v15 : Ref sig .tc := ⟨.hbm, 69, rfl⟩
abbrev main_while0b_call4_v16 : Ref sig .tc := ⟨.hbm, 70, rfl⟩
abbrev main_while0b_call4_v17 : Ref sig .tc := ⟨.hbm, 71, rfl⟩
abbrev main_while0b_call4_v18 : Ref sig .tc := ⟨.hbm, 72, rfl⟩
abbrev main_while0b_call4_v19 : Ref sig .tc := ⟨.hbm, 73, rfl⟩
abbrev main_while0b_call4_v20 : Ref sig .tc := ⟨.hbm, 74, rfl⟩
abbrev main_while0b_call4_v21 : Ref sig .tc := ⟨.hbm, 75, rfl⟩
abbrev main_while0b_call4_v22 : Ref sig .tc := ⟨.hbm, 76, rfl⟩
abbrev main_while0b_call4_v23 : Ref sig .tc := ⟨.hbm, 77, rfl⟩
abbrev main_while0b_call4_v24 : Ref sig .tc := ⟨.hbm, 78, rfl⟩
abbrev main_while0b_v24 : Ref sig .tc := ⟨.hbm, 79, rfl⟩
abbrev main_while0b_call5_v0 : Ref sig .tc := ⟨.hbm, 80, rfl⟩
abbrev main_while0b_call5_v1 : Ref sig .tc := ⟨.hbm, 81, rfl⟩
abbrev main_while0b_call5_v2 : Ref sig .tc := ⟨.hbm, 82, rfl⟩
abbrev main_while0b_call5_v3 : Ref sig .tc := ⟨.hbm, 83, rfl⟩
abbrev main_while0b_call5_v4 : Ref sig .tc := ⟨.hbm, 84, rfl⟩
abbrev main_while0b_call5_v5 : Ref sig .tc := ⟨.hbm, 85, rfl⟩
abbrev main_while0b_call5_v6 : Ref sig .tc := ⟨.hbm, 86, rfl⟩
abbrev main_while0b_call5_v7 : Ref sig .tc := ⟨.hbm, 87, rfl⟩
abbrev main_while0b_call5_v8 : Ref sig .tc := ⟨.hbm, 88, rfl⟩
abbrev main_while0b_call5_v9 : Ref sig .tc := ⟨.hbm, 89, rfl⟩
abbrev main_while0b_call5_v10 : Ref sig .tc := ⟨.hbm, 90, rfl⟩
abbrev main_while0b_call5_v11 : Ref sig .tc := ⟨.hbm, 91, rfl⟩
abbrev main_while0b_call5_v12 : Ref sig .tc := ⟨.hbm, 92, rfl⟩
abbrev main_while0b_call5_v13 : Ref sig .tc := ⟨.hbm, 93, rfl⟩
abbrev main_while0b_call5_v14 : Ref sig .tc := ⟨.hbm, 94, rfl⟩
abbrev main_while0b_call5_v15 : Ref sig .tc := ⟨.hbm, 95, rfl⟩
abbrev main_while0b_call5_v16 : Ref sig .tc := ⟨.hbm, 96, rfl⟩
abbrev main_while0b_call5_v17 : Ref sig .tc := ⟨.hbm, 97, rfl⟩
abbrev main_while0b_call5_v18 : Ref sig .tc := ⟨.hbm, 98, rfl⟩
abbrev main_while0b_call5_v19 : Ref sig .tc := ⟨.hbm, 99, rfl⟩
abbrev main_while0b_call5_v20 : Ref sig .tc := ⟨.hbm, 100, rfl⟩
abbrev main_while0b_call5_v21 : Ref sig .tc := ⟨.hbm, 101, rfl⟩
abbrev main_while0b_call5_v22 : Ref sig .tc := ⟨.hbm, 102, rfl⟩
abbrev main_while0b_call5_v23 : Ref sig .tc := ⟨.hbm, 103, rfl⟩
abbrev main_while0b_call5_v24 : Ref sig .tc := ⟨.hbm, 104, rfl⟩
abbrev main_while0b_v25 : Ref sig .tc := ⟨.hbm, 105, rfl⟩
abbrev main_while0b_call6_v0 : Ref sig .tc := ⟨.hbm, 106, rfl⟩
abbrev main_while0b_call6_v1 : Ref sig .tc := ⟨.hbm, 107, rfl⟩
abbrev main_while0b_call6_v2 : Ref sig .tc := ⟨.hbm, 108, rfl⟩
abbrev main_while0b_call6_v3 : Ref sig .tc := ⟨.hbm, 109, rfl⟩
abbrev main_while0b_call6_v4 : Ref sig .tc := ⟨.hbm, 110, rfl⟩
abbrev main_while0b_call6_v5 : Ref sig .tc := ⟨.hbm, 111, rfl⟩
abbrev main_while0b_call6_v6 : Ref sig .tc := ⟨.hbm, 112, rfl⟩
abbrev main_while0b_call6_v7 : Ref sig .tc := ⟨.hbm, 113, rfl⟩
abbrev main_while0b_call6_v8 : Ref sig .tc := ⟨.hbm, 114, rfl⟩
abbrev main_while0b_call6_v9 : Ref sig .tc := ⟨.hbm, 115, rfl⟩
abbrev main_while0b_call6_v10 : Ref sig .tc := ⟨.hbm, 116, rfl⟩
abbrev main_while0b_call6_v11 : Ref sig .tc := ⟨.hbm, 117, rfl⟩
abbrev main_while0b_call6_v12 : Ref sig .tc := ⟨.hbm, 118, rfl⟩
abbrev main_while0b_call6_v13 : Ref sig .tc := ⟨.hbm, 119, rfl⟩
abbrev main_while0b_call6_v14 : Ref sig .tc := ⟨.hbm, 120, rfl⟩
abbrev main_while0b_call6_v15 : Ref sig .tc := ⟨.hbm, 121, rfl⟩
abbrev main_while0b_call6_v16 : Ref sig .tc := ⟨.hbm, 122, rfl⟩
abbrev main_while0b_call6_v17 : Ref sig .tc := ⟨.hbm, 123, rfl⟩
abbrev main_while0b_call6_v18 : Ref sig .tc := ⟨.hbm, 124, rfl⟩
abbrev main_while0b_call6_v19 : Ref sig .tc := ⟨.hbm, 125, rfl⟩
abbrev main_while0b_call6_v20 : Ref sig .tc := ⟨.hbm, 126, rfl⟩
abbrev main_while0b_call6_v21 : Ref sig .tc := ⟨.hbm, 127, rfl⟩
abbrev main_while0b_call6_v22 : Ref sig .tc := ⟨.hbm, 128, rfl⟩
abbrev main_while0b_call6_v23 : Ref sig .tc := ⟨.hbm, 129, rfl⟩
abbrev main_while0b_call6_v24 : Ref sig .tc := ⟨.hbm, 130, rfl⟩
abbrev main_while0b_v26 : Ref sig .tc := ⟨.hbm, 131, rfl⟩
abbrev main_while0b_v27 : Ref sig .tc := ⟨.hbm, 132, rfl⟩
abbrev main_while0b_v28 : Ref sig .tc := ⟨.hbm, 133, rfl⟩
abbrev main_while0b_v29 : Ref sig .tc := ⟨.hbm, 134, rfl⟩
abbrev main_while0b_v30 : Ref sig .tc := ⟨.hbm, 135, rfl⟩
abbrev main_while0b_v31 : Ref sig .tc := ⟨.hbm, 136, rfl⟩
abbrev main_while0b_v32 : Ref sig .tc := ⟨.hbm, 137, rfl⟩
abbrev main_while0b_v33 : Ref sig .tc := ⟨.hbm, 138, rfl⟩
abbrev main_while0b_v34 : Ref sig .tc := ⟨.hbm, 139, rfl⟩
abbrev main_while0b_v35 : Ref sig .tc := ⟨.hbm, 140, rfl⟩
abbrev main_while0b_v36 : Ref sig .tc := ⟨.hbm, 141, rfl⟩
abbrev main_while0b_call7_v0 : Ref sig .tc := ⟨.hbm, 142, rfl⟩
abbrev main_while0b_call7_v1 : Ref sig .tc := ⟨.hbm, 143, rfl⟩
abbrev main_while0b_call7_v2 : Ref sig .tc := ⟨.hbm, 144, rfl⟩
abbrev main_while0b_call7_v3 : Ref sig .tc := ⟨.hbm, 145, rfl⟩
abbrev main_while0b_call7_v4 : Ref sig .tc := ⟨.hbm, 146, rfl⟩
abbrev main_while0b_call7_v5 : Ref sig .tc := ⟨.hbm, 147, rfl⟩
abbrev main_while0b_call7_v6 : Ref sig .tc := ⟨.hbm, 148, rfl⟩
abbrev main_while0b_call7_v7 : Ref sig .tc := ⟨.hbm, 149, rfl⟩
abbrev main_while0b_call7_v8 : Ref sig .tc := ⟨.hbm, 150, rfl⟩
abbrev main_while0b_call7_v9 : Ref sig .tc := ⟨.hbm, 151, rfl⟩
abbrev main_while0b_call7_v10 : Ref sig .tc := ⟨.hbm, 152, rfl⟩
abbrev main_while0b_call7_v11 : Ref sig .tc := ⟨.hbm, 153, rfl⟩
abbrev main_while0b_call7_v12 : Ref sig .tc := ⟨.hbm, 154, rfl⟩
abbrev main_while0b_call7_v13 : Ref sig .tc := ⟨.hbm, 155, rfl⟩
abbrev main_while0b_call7_v14 : Ref sig .tc := ⟨.hbm, 156, rfl⟩
abbrev main_while0b_call7_v15 : Ref sig .tc := ⟨.hbm, 157, rfl⟩
abbrev main_while0b_call7_v16 : Ref sig .tc := ⟨.hbm, 158, rfl⟩
abbrev main_while0b_call7_v17 : Ref sig .tc := ⟨.hbm, 159, rfl⟩
abbrev main_while0b_call7_v18 : Ref sig .tc := ⟨.hbm, 160, rfl⟩
abbrev main_while0b_call7_v19 : Ref sig .tc := ⟨.hbm, 161, rfl⟩
abbrev main_while0b_call7_v20 : Ref sig .tc := ⟨.hbm, 162, rfl⟩
abbrev main_while0b_call7_v21 : Ref sig .tc := ⟨.hbm, 163, rfl⟩
abbrev main_while0b_call7_v22 : Ref sig .tc := ⟨.hbm, 164, rfl⟩
abbrev main_while0b_call7_v23 : Ref sig .tc := ⟨.hbm, 165, rfl⟩
abbrev main_while0b_call7_v24 : Ref sig .tc := ⟨.hbm, 166, rfl⟩
abbrev main_while0b_v37 : Ref sig .tc := ⟨.hbm, 167, rfl⟩
abbrev main_while0b_v38 : Ref sig .tc := ⟨.hbm, 168, rfl⟩
abbrev main_while0b_cst_10 : Ref sig .tc := ⟨.hbm, 169, rfl⟩
abbrev main_while0b_v39 : Ref sig .tc := ⟨.hbm, 170, rfl⟩
abbrev main_while0b_v40 : Ref sig .tc := ⟨.hbm, 171, rfl⟩
abbrev main_while0b_v41 : Ref sig .tc := ⟨.hbm, 172, rfl⟩
abbrev main_while0b_v42 : Ref sig .tc := ⟨.hbm, 173, rfl⟩
abbrev main_while0b_v43 : Ref sig .tc := ⟨.hbm, 174, rfl⟩
abbrev main_while0b_v44 : Ref sig .tc := ⟨.hbm, 175, rfl⟩
abbrev main_while0b_v45 : Ref sig .tc := ⟨.hbm, 176, rfl⟩
abbrev main_while0b_cst_11 : Ref sig .tc := ⟨.hbm, 177, rfl⟩
abbrev main_while0b_v46 : Ref sig .tc := ⟨.hbm, 178, rfl⟩
abbrev main_while0b_v47 : Ref sig .tc := ⟨.hbm, 179, rfl⟩
abbrev main_while0b_v48 : Ref sig .tc := ⟨.hbm, 180, rfl⟩
abbrev main_while0b_v49 : Ref sig .tc := ⟨.hbm, 181, rfl⟩
abbrev main_while0b_cst_12 : Ref sig .tc := ⟨.hbm, 182, rfl⟩
abbrev main_while0b_v50 : Ref sig .tc := ⟨.hbm, 183, rfl⟩
abbrev main_while0b_v51 : Ref sig .tc := ⟨.hbm, 184, rfl⟩
abbrev main_while0b_cst_13 : Ref sig .tc := ⟨.hbm, 185, rfl⟩
abbrev main_while0b_v52 : Ref sig .tc := ⟨.hbm, 186, rfl⟩
abbrev main_while0b_v53 : Ref sig .tc := ⟨.hbm, 187, rfl⟩
abbrev main_while0b_v54 : Ref sig .tc := ⟨.hbm, 188, rfl⟩
abbrev main_while0b_v55 : Ref sig .tc := ⟨.hbm, 189, rfl⟩
abbrev main_while0b_v56 : Ref sig .tc := ⟨.hbm, 190, rfl⟩
abbrev main_while0b_v57 : Ref sig .tc := ⟨.hbm, 191, rfl⟩
abbrev main_while0b_v58 : Ref sig .tc := ⟨.hbm, 192, rfl⟩
abbrev main_while0b_v59 : Ref sig .tc := ⟨.hbm, 193, rfl⟩
abbrev main_while0b_v60 : Ref sig .tc := ⟨.hbm, 194, rfl⟩
abbrev main_while0b_v61 : Ref sig .tc := ⟨.hbm, 195, rfl⟩
abbrev main_while0b_v62 : Ref sig .tc := ⟨.hbm, 196, rfl⟩
abbrev main_while0b_v63 : Ref sig .tc := ⟨.hbm, 197, rfl⟩
abbrev main_while0b_v64 : Ref sig .tc := ⟨.hbm, 198, rfl⟩
abbrev main_while0b_v65 : Ref sig .tc := ⟨.hbm, 199, rfl⟩
abbrev main_while0b_v66 : Ref sig .tc := ⟨.hbm, 200, rfl⟩
abbrev main_while0b_v67 : Ref sig .tc := ⟨.hbm, 201, rfl⟩
abbrev main_while0b_v68 : Ref sig .tc := ⟨.hbm, 202, rfl⟩
abbrev main_while0b_v69 : Ref sig .tc := ⟨.hbm, 203, rfl⟩
abbrev main_while0b_v70 : Ref sig .tc := ⟨.hbm, 204, rfl⟩
abbrev main_while0b_v71 : Ref sig .tc := ⟨.hbm, 205, rfl⟩
abbrev main_while0b_v72 : Ref sig .tc := ⟨.hbm, 206, rfl⟩
abbrev main_while0b_v73 : Ref sig .tc := ⟨.hbm, 207, rfl⟩
abbrev main_while0b_c_14 : Ref sig .tc := ⟨.hbm, 208, rfl⟩
abbrev main_while0b_v74 : Ref sig .tc := ⟨.hbm, 209, rfl⟩
abbrev main_v8 : Ref sig .tc := ⟨.hbm, 210, rfl⟩
abbrev main_v9 : Ref sig .tc := ⟨.hbm, 211, rfl⟩

abbrev nD : Nat := 1
abbrev τ : Topo := Topo.v7x

variable {F : FTy → Type} [FloatOps F]

abbrev main_while0_count : Scf.Loop 32 := ⟨0#32, 128#32, 1#32⟩
-- ==== Proof.Chunk.lean ====
/-
  One chunk of the kernel body, written once. The body handles its 16000 voxels in 125 chunks of 128
  lanes, each printed out in full; here the chunk is a definition with the chunk's number as an
  argument, and the two output blocks are the 125 instances of it (`dens_canon`, `feats_canon`).
-/
module

public import proofs.«01_k».proof.Proof.Gen.KernelIdeal.Frame

@[expose] public section

set_option maxRecDepth 16384

noncomputable section

namespace Cert.KernelIdeal.Chunk

open Idealize.ShloMosaic Idealize.SL.Sem
open Cert.KernelIdeal Cert.KernelIdeal.Gen

variable {F : FTy → Type} [FloatOps F] [Named F]

/-! ## The table of the Gaussians: columns, cofactors, inverse entries -/

section Params
variable (x0 : Vec F S128x29 .f32)

/-- A loaded column of the table. -/
abbrev colOf (v : Vec F S128x1 .f32) : FVec F S128x1 .f32 := shapeCast S128x1 v shapeCasts_S128x1_S128x1

def c00 : FVec F S128x1 .f32 := colOf (View.ld x0 r0_0)
def c01 : FVec F S128x1 .f32 := colOf (View.ld x0 r0_1)
def c02 : FVec F S128x1 .f32 := colOf (View.ld x0 r0_2)
def c11 : FVec F S128x1 .f32 := colOf (View.ld x0 r0_3)
def c12 : FVec F S128x1 .f32 := colOf (View.ld x0 r0_4)
def c22 : FVec F S128x1 .f32 := colOf (View.ld x0 r0_5)
def mux : FVec F S128x1 .f32 := colOf (View.ld x0 r0_6)
def muy : FVec F S128x1 .f32 := colOf (View.ld x0 r0_7)
def muz : FVec F S128x1 .f32 := colOf (View.ld x0 r0_8)
def opac : FVec F S128x1 .f32 := colOf (View.ld x0 r0_9)

def m00 : FVec F S128x1 .f32 := subf (mulf (c11 x0) (c22 x0)) (mulf (c12 x0) (c12 x0))
def m01 : FVec F S128x1 .f32 := subf (mulf (c02 x0) (c12 x0)) (mulf (c01 x0) (c22 x0))
def m02 : FVec F S128x1 .f32 := subf (mulf (c01 x0) (c12 x0)) (mulf (c02 x0) (c11 x0))
def m11 : FVec F S128x1 .f32 := subf (mulf (c00 x0) (c22 x0)) (mulf (c02 x0) (c02 x0))
def m12 : FVec F S128x1 .f32 := subf (mulf (c01 x0) (c02 x0)) (mulf (c00 x0) (c12 x0))
def m22 : FVec F S128x1 .f32 := subf (mulf (c00 x0) (c11 x0)) (mulf (c01 x0) (c01 x0))

/-- One over the determinant. -/
def rdet : FVec F S128x1 .f32 :=
  divf (broadcast S128x1 (Scalar.ofBits .f32 0x3F800000#32))
    (addf (addf (mulf (c00 x0) (m00 x0)) (mulf (c01 x0) (m01 x0))) (mulf (c02 x0) (m02 x0)))

/-- The round trip through the narrow format of a column. -/
abbrev rb1 (v : FVec F S128x1 .f32) : FVec F S128x1 .f32 :=
  extf .f32 (truncf .bf16 v bitsLt_bf16_f32) bitsLt_bf16_f32

def i00 : FVec F S128x1 .f32 := rb1 (mulf (m00 x0) (rdet x0))
def i01 : FVec F S128x1 .f32 := rb1 (mulf (m01 x0) (rdet x0))
def i02 : FVec F S128x1 .f32 := rb1 (mulf (m02 x0) (rdet x0))
def i11 : FVec F S128x1 .f32 := rb1 (mulf (m11 x0) (rdet x0))
def i12 : FVec F S128x1 .f32 := rb1 (mulf (m12 x0) (rdet x0))
def i22 : FVec F S128x1 .f32 := rb1 (mulf (m22 x0) (rdet x0))

/-- The sixteen weighted features and the opacity of each Gaussian. -/
def rhs : FVec F S128x17 .f32 :=
  concatenate S128x17 1
    [⟨S128x16, mulf (shapeCast S128x16 (View.ld x0 r0_10) shapeCasts_S128x16_S128x16)
        (broadcastTo S128x16 (opac x0) broadcasts_S128x1_S128x16)⟩,
     ⟨S128x1, opac x0⟩] concatenates_S128x16_S128x1_S128x17_d1

end Params

/-! ## The lanes of a chunk -/

def lane : IVec S1x128 32 := iota .tc S1x128 32 [1] iota_S1x128_d1_w32

/-- Whether chunk `c` stays inside one run of 800 voxels. -/
def plain (c : ℕ) : Bool := (c * 128 / 800).beq ((c * 128 + 127) / 800)

/-- 1 on the lanes past the run's end, for a chunk that crosses it. -/
def crossv (c : ℕ) : IVec S1x128 32 :=
  extui 32 (cmpi .sge lane (broadcast S1x128 (BitVec.ofNat 32 (800 * ((c * 128 + 127) / 800) - c * 128)))) natLt_1_32

/-- The first coordinate of each lane's voxel. -/
def chunkIx (b : BitVec 32) (c : ℕ) : IVec S1x128 32 :=
  bif plain c then broadcast S1x128 (Scalar.addi (Scalar.muli 20#32 b) (BitVec.ofNat 32 (c * 128 / 800)))
  else addi (broadcast S1x128 (Scalar.addi (Scalar.muli 20#32 b) (BitVec.ofNat 32 (c * 128 / 800)))) (crossv c)

/-- The place of each lane's voxel in its run of 800. -/
def chunkR (c : ℕ) : IVec S1x128 32 :=
  bif plain c then addi lane (broadcast S1x128 (BitVec.ofNat 32 (c * 128 - 800 * (c * 128 / 800))))
  else subi (addi lane (broadcast S1x128 (BitVec.ofNat 32 (c * 128 - 800 * (c * 128 / 800)))))
    (muli (broadcast S1x128 800#32) (crossv c))

/-- A voxel centre's coordinate of its place on the axis. -/
def centre (lo : BitVec 32) (v : IVec S1x128 32) : FVec F S1x128 .f32 :=
  addf (mulf (addf (sitofp .f32 v) (broadcast S1x128 (Scalar.ofBits .f32 0x3F000000#32)))
    (broadcast S1x128 (Scalar.ofBits .f32 0x3F4CCCCD#32))) (broadcast S1x128 (Scalar.ofBits .f32 lo))

/-! ## The arithmetic of a chunk -/

section Body
variable (x0 : Vec F S128x29 .f32) (ix r : IVec S1x128 32)

/-- A row of lanes less a column of Gaussians. -/
abbrev diff (a : FVec F S1x128 .f32) (b : FVec F S128x1 .f32) : FVec F S128x128 .f32 :=
  subf (broadcastTo S128x128 a broadcasts_S1x128_S128x128) (broadcastTo S128x128 b broadcasts_S128x1_S128x128)

def dx : FVec F S128x128 .f32 := diff (centre 0xC2200000#32 ix) (mux x0)
def dy : FVec F S128x128 .f32 :=
  diff (centre 0xC2200000#32 (shrsi r (broadcast S1x128 3#32))) (muy x0)
def dz : FVec F S128x128 .f32 :=
  diff (centre 0xBF800000#32 (andi r (broadcast S1x128 7#32))) (muz x0)

abbrev rb (v : FVec F S128x128 .f32) : FVec F S128x128 .f32 :=
  extf .f32 (truncf .bf16 v bitsLt_bf16_f32) bitsLt_bf16_f32

abbrev bcol (v : FVec F S128x1 .f32) : FVec F S128x128 .f32 := broadcastTo S128x128 v broadcasts_S128x1_S128x128

/-- A row of the inverse against the difference. -/
abbrev rowdot (a b c : FVec F S128x1 .f32) : FVec F S128x128 .f32 :=
  addf (addf (mulf (rb (dx x0 ix)) (bcol a)) (mulf (rb (dy x0 r)) (bcol b))) (mulf (rb (dz x0 r)) (bcol c))

def t0 : FVec F S128x128 .f32 := rowdot x0 ix r (i00 x0) (i01 x0) (i02 x0)
def t1 : FVec F S128x128 .f32 := rowdot x0 ix r (i01 x0) (i11 x0) (i12 x0)
def t2 : FVec F S128x128 .f32 := rowdot x0 ix r (i02 x0) (i12 x0) (i22 x0)

def maha : FVec F S128x128 .f32 :=
  addf (addf (mulf (dx x0 ix) (t0 x0 ix r)) (mulf (dy x0 r) (t1 x0 ix r))) (mulf (dz x0 r) (t2 x0 ix r))

def inside : IVec S128x128 1 :=
  cmpf .ole (maha x0 ix r) (broadcast S128x128 (Scalar.ofBits .f32 0x40800000#32))

def weight : FVec F S128x128 .f32 :=
  select (inside x0 ix r)
    (exp2 (mulf (maha x0 ix r) (broadcast S128x128 (Named.named κ "mhl2e" 0xBF38AA3B#32 : F .f32))))
    (broadcast S128x128 (Scalar.ofBits .f32 0x00000000#32))

def count : FVec F S1x128 .f32 :=
  matmul dot_S128x1_S128x128_S1x128_0_0_1_1_n_n none (broadcast S128x1 (Scalar.ofBits .f32 0x3F800000#32))
    (select (inside x0 ix r) (broadcast S128x128 (Scalar.ofBits .f32 0x3F800000#32))
      (broadcast S128x128 (Scalar.ofBits .f32 0x00000000#32))) (constant S1x128 .f32 0x00000000#32)

def scale : FVec F S1x128 .f32 :=
  divf (broadcast S1x128 (Scalar.ofBits .f32 0x3F800000#32))
    (maximumf (count x0 ix r) (broadcast S1x128 (Scalar.ofBits .f32 0x3F800000#32)))

def outv : FVec F S17x128 .f32 :=
  mulf (matmul dot_S128x17_S128x128_S17x128_0_0_1_1_n_n none (rhs x0) (weight x0 ix r) (constant S17x128 .f32 0x00000000#32))
    (broadcastTo S17x128 (scale x0 ix r) broadcasts_S1x128_S17x128)

def densOut : FVec F S1x1x128 .f32 :=
  shapeCast S1x1x128 (extractStridedSlice S1x128 ![16, 0] (outv x0 ix r) slices_S17x128_o16_0_S1x128) shapeCasts_S1x128_S1x1x128

def featsOut : FVec F S16x128 .f32 :=
  extractStridedSlice S16x128 ![0, 0] (outv x0 ix r) slices_S17x128_o0_0_S16x128

end Body

/-- What chunk `c` stores of the densities. -/
def chunkDens (i : grid0.Coords) (x0 : Vec F S128x29 .f32) (c : ℕ) : FVec F S1x1x128 .f32 :=
  densOut x0 (chunkIx (BitVec.ofNat 32 (i 0).val) c) (chunkR c)

/-- What chunk `c` stores of the features. -/
def chunkFeats (i : grid0.Coords) (x0 : Vec F S128x29 .f32) (c : ℕ) : FVec F S16x128 .f32 :=
  featsOut x0 (chunkIx (BitVec.ofNat 32 (i 0).val) c) (chunkR c)

theorem dens_inb (k : Fin 125) : ∀ a, (![124 - k.val, 0, 0] : Fin 3 → ℕ) a + S1x1x128.size a ≤ S125x1x128.size a := by
  intro a; have := k.isLt; fin_cases a <;> simp [S1x1x128, S125x1x128] <;> omega

theorem feats_inb (k : Fin 125) : ∀ a, (![0, (124 - k.val) * 128] : Fin 2 → ℕ) a + S16x128.size a ≤ S16x16000.size a := by
  intro a; have := k.isLt; fin_cases a <;> simp [S16x128, S16x16000] <;> omega

theorem dens_canon (i : grid0.Coords) (x0 : Vec F S128x29 .f32) :
    out0_1 i x0 = View.canon (List.ofFn fun k : Fin 125 =>
      (⟨Rect.unit (s := S125x1x128) ![124 - k.val, 0, 0] S1x1x128.size (dens_inb k), chunkDens i x0 (124 - k.val)⟩ :
        View.Piece (Elt F) S125x1x128 .f32)) := by
  chain_rfl

theorem feats_canon (i : grid0.Coords) (x0 : Vec F S128x29 .f32) :
    out0_2 i x0 = View.canon (List.ofFn fun k : Fin 125 =>
      (⟨Rect.unit (s := S16x16000) ![0, (124 - k.val) * 128] S16x128.size (feats_inb k), chunkFeats i x0 (124 - k.val)⟩ :
        View.Piece (Elt F) S16x16000 .f32)) := by
  chain_rfl

end Cert.KernelIdeal.Chunk

end
-- ==== Proof.Lanes.lean ====
/-
  The words of a chunk: lane `l` of chunk `c` in block `i` is voxel `16000 i + 128 c + l`, and the words the
  body computes for it are that voxel's places on the three axes.
-/
module

public import proofs.«01_k».proof.Proof.Chunk
public import Idealize.ShloMosaic.Lib.Pointwise
public import Idealize.ShloMosaic.Lib.IdealHost

@[expose] public section

set_option maxRecDepth 16384

noncomputable section

namespace Cert.KernelIdeal.Chunk

open Idealize.ShloMosaic Idealize.SL.Sem
open Cert.KernelIdeal Cert.KernelIdeal.Gen

theorem plain_iff (c : ℕ) : plain c = true ↔ c * 128 / 800 = (c * 128 + 127) / 800 := by
  simp [plain]

theorem toInt_small (v : ℕ) (h : v < 80000) : (BitVec.ofNat 32 v).toInt = v := by
  have : (BitVec.ofNat 32 v).toNat = v := by rw [BitVec.toNat_ofNat]; omega
  rw [BitVec.toInt_eq_toNat_of_lt (by rw [this]; omega), this]

theorem crossv_at (c : ℕ) (hp : plain c = false) (hc : c < 125) (l : Fin 128) :
    crossv c (ix2 0 l) = BitVec.ofNat 32 ((c * 128 + l.val) / 800 - c * 128 / 800) := by
  have hp' : ¬ (c * 128 / 800 = (c * 128 + 127) / 800) := by rw [← plain_iff, hp]; simp
  have hl := l.isLt
  pointwise [crossv, lane]
  simp only [IntOp.cmpi, BitVec.sle]
  rw [toInt_small l.val (by omega), toInt_small _ (by omega)]
  by_cases h : 800 * ((c * 128 + 127) / 800) - c * 128 ≤ l.val
  · rw [show (c * 128 + l.val) / 800 - c * 128 / 800 = 1 by omega, decide_eq_true (by exact_mod_cast h)]
    rfl
  · rw [show (c * 128 + l.val) / 800 - c * 128 / 800 = 0 by omega, decide_eq_false (by exact_mod_cast h)]
    rfl

theorem chunkIx_at (i : ℕ) (hi : i < 5) (c : ℕ) (hc : c < 125) (l : Fin 128) :
    chunkIx (BitVec.ofNat 32 i) c (ix2 0 l) = BitVec.ofNat 32 ((16000 * i + c * 128 + l.val) / 800) := by
  have hl := l.isLt
  cases hp : plain c with
  | true =>
    have hp' := (plain_iff c).1 hp
    pointwise [chunkIx, hp, cond_true]
    rw [show (16000 * i + c * 128 + l.val) / 800 = 20 * i + c * 128 / 800 by omega, BitVec.ofNat_add, BitVec.ofNat_mul]
    rfl
  | false =>
    have hp' : ¬ (c * 128 / 800 = (c * 128 + 127) / 800) := by rw [← plain_iff, hp]; simp
    pointwise [chunkIx, hp, cond_false, crossv_at c hp hc]
    rw [show (16000 * i + c * 128 + l.val) / 800 = 20 * i + c * 128 / 800 + ((c * 128 + l.val) / 800 - c * 128 / 800)
      by omega, BitVec.ofNat_add, BitVec.ofNat_add, BitVec.ofNat_mul]
    rfl

theorem chunkR_at (i : ℕ) (c : ℕ) (hc : c < 125) (l : Fin 128) :
    chunkR c (ix2 0 l) = BitVec.ofNat 32 ((16000 * i + c * 128 + l.val) % 800) := by
  have hl := l.isLt
  cases hp : plain c with
  | true =>
    have hp' := (plain_iff c).1 hp
    pointwise [chunkR, hp, cond_true, lane]
    rw [show (16000 * i + c * 128 + l.val) % 800 = l.val + (c * 128 - 800 * (c * 128 / 800)) by omega, BitVec.ofNat_add]
    rfl
  | false =>
    have hp' : ¬ (c * 128 / 800 = (c * 128 + 127) / 800) := by rw [← plain_iff, hp]; simp
    pointwise [chunkR, hp, cond_false, crossv_at c hp hc, lane]
    generalize hx : (c * 128 + l.val) / 800 - c * 128 / 800 = x
    show (BitVec.ofNat 32 l.val + BitVec.ofNat 32 _ - 800#32 * BitVec.ofNat 32 x : BitVec 32) = _
    have e : l.val + (c * 128 - 800 * (c * 128 / 800)) = (16000 * i + c * 128 + l.val) % 800 + 800 * x := by omega
    rw [← BitVec.ofNat_add, e, BitVec.ofNat_add, BitVec.ofNat_mul]
    exact BitVec.add_sub_cancel _ _

/-- Three bits down: the place on the middle axis. -/
theorem shift_at (n : ℕ) : IntOp.shrsi .vector (BitVec.ofNat 32 (n % 800)) 3#32 = BitVec.ofNat 32 (n / 8 % 100) := by
  rw [show n / 8 % 100 = n % 800 / 8 by omega]
  exact (by decide +kernel : ∀ v : Fin 800, IntOp.shrsi .vector (BitVec.ofNat 32 v.val) 3#32 = BitVec.ofNat 32 (v.val / 8))
    ⟨n % 800, by omega⟩

/-- The low three bits: the place on the last axis. -/
theorem low_at (n : ℕ) : IntOp.andi (BitVec.ofNat 32 (n % 800)) 7#32 = BitVec.ofNat 32 (n % 8) := by
  rw [show n % 8 = n % 800 % 8 by omega]
  exact (by decide +kernel : ∀ v : Fin 800, IntOp.andi (BitVec.ofNat 32 v.val) 7#32 = BitVec.ofNat 32 (v.val % 8))
    ⟨n % 800, by omega⟩

end Cert.KernelIdeal.Chunk

end
-- ==== Proof.Consts.lean ====
/-
  The float constants both programs spell, as the real numbers they denote.
-/
module

public import Idealize.ShloMosaic.PureOps.Ideal

@[expose] public section

noncomputable section

namespace Splat

open Idealize.ShloMosaic

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-1 / 2 : ℝ) : EReal) := by
  simp [Ideal.ofBits, Ideal.ieee, -EReal.coe_mul]; norm_num

theorem bits_width : Ideal.ofBits .f32 0x3F4CCCCD#32 = ((13421773 / 16777216 : ℝ) : EReal) := by
  simp [Ideal.ofBits, Ideal.ieee, -EReal.coe_mul]; norm_num

theorem bits_neg_forty : Ideal.ofBits .f32 0xC2200000#32 = ((-40 : ℝ) : EReal) := by
  simp [Ideal.ofBits, Ideal.ieee, -EReal.coe_mul]; norm_num

theorem bits_neg_one : Ideal.ofBits .f32 0xBF800000#32 = ((-1 : ℝ) : EReal) := by
  simp [Ideal.ofBits, Ideal.ieee, -EReal.coe_mul]; norm_num

theorem bits_four : Ideal.ofBits .f32 0x40800000#32 = ((4 : ℝ) : EReal) := by
  simp [Ideal.ofBits, Ideal.ieee, -EReal.coe_mul]; norm_num

/-- The floor under the reference's count, the f32 value of 1e-6. -/
def floorCount : ℝ := 8796093 / 8796093022208

theorem bits_floor : Ideal.ofBits .f32 0x358637BD#32 = (floorCount : EReal) := by
  simp [Ideal.ofBits, Ideal.ieee, floorCount, -EReal.coe_mul]; norm_num

theorem bits_inf : Ideal.ofBits .f32 0x7F800000#32 = ⊤ := by
  simp [Ideal.ofBits, Ideal.ieee]

theorem floor_pos : 0 < floorCount := by norm_num [floorCount]
theorem floor_le : floorCount ≤ 1 := by norm_num [floorCount]

end Splat

end
-- ==== Proof.Scene.lean ====
/-
  The mathematics both programs are read as, over the reals: a scene of 128 Gaussians, the 80000 voxel
  centres, the quadratic form of a covariance, the Gaussians that count at a voxel, and the mean over those.
  The two facts the programs differ by are here: the quadratic form written by the six cofactors of a
  symmetric matrix (`quad_sym`), and the mean taken one Gaussian at a time (`mean_step`).
-/
module

public import Mathlib.Analysis.SpecialFunctions.Exp
public import Mathlib.Analysis.SpecialFunctions.Pow.Real

@[expose] public section

noncomputable section

namespace Splat

/-! ## Voxel centres -/

/-- The centre of place `v` on an axis that starts at `lo`; the width is the f32 value of 0.8. -/
def ctr (lo : ℝ) (v : ℕ) : ℝ := ((v : ℝ) + 1 / 2) * (13421773 / 16777216) + lo

/-- The centre of voxel `n`, counted with the last axis fastest. -/
def centre (n : ℕ) : Fin 3 → ℝ := ![ctr (-40) (n / 800), ctr (-40) (n / 8 % 100), ctr (-1) (n % 8)]

/-! ## The quadratic form of a covariance -/

def cross (u v : Fin 3 → ℝ) : Fin 3 → ℝ := ![u 1 * v 2 - u 2 * v 1, u 2 * v 0 - u 0 * v 2, u 0 * v 1 - u 1 * v 0]

def det (C : Fin 3 → Fin 3 → ℝ) : ℝ := ∑ x, C 0 x * cross (C 1) (C 2) x

/-- The inverse: the adjugate's columns are the cross products of the rows. -/
def inv (C : Fin 3 → Fin 3 → ℝ) (a b : Fin 3) : ℝ :=
  (![cross (C 1) (C 2), cross (C 2) (C 0), cross (C 0) (C 1)] : Fin 3 → Fin 3 → ℝ) b a / det C

def quad (C : Fin 3 → Fin 3 → ℝ) (p : Fin 3 → ℝ) : ℝ := ∑ x, p x * ∑ y, inv C y x * p y

/-- The determinant by the cofactors of the first row of the upper triangle. -/
def det6 (a b c d e f : ℝ) : ℝ := a * (d * f - e * e) + b * (c * e - b * f) + c * (b * e - c * d)

/-- The quadratic form by the six cofactors of the upper triangle. -/
def quad6 (a b c d e f x y z : ℝ) : ℝ :=
  let r := 1 / det6 a b c d e f
  let i00 := (d * f - e * e) * r
  let i01 := (c * e - b * f) * r
  let i02 := (b * e - c * d) * r
  let i11 := (a * f - c * c) * r
  let i12 := (b * c - a * e) * r
  let i22 := (a * d - b * b) * r
  x * (x * i00 + y * i01 + z * i02) + y * (x * i01 + y * i11 + z * i12) + z * (x * i02 + y * i12 + z * i22)

theorem det_sym (C : Fin 3 → Fin 3 → ℝ) (hs : ∀ a b, C a b = C b a) :
    det C = det6 (C 0 0) (C 0 1) (C 0 2) (C 1 1) (C 1 2) (C 2 2) := by
  simp [det, det6, cross, Fin.sum_univ_three]
  rw [hs 1 0, hs 2 0, hs 2 1]
  ring

theorem quad_sym (C : Fin 3 → Fin 3 → ℝ) (hs : ∀ a b, C a b = C b a) (p : Fin 3 → ℝ) :
    quad C p = quad6 (C 0 0) (C 0 1) (C 0 2) (C 1 1) (C 1 2) (C 2 2) (p 0) (p 1) (p 2) := by
  simp only [quad, inv, Fin.sum_univ_three]
  rw [det_sym C hs]
  simp only [quad6, cross, one_div, div_eq_mul_inv]
  generalize (det6 (C 0 0) (C 0 1) (C 0 2) (C 1 1) (C 1 2) (C 2 2))⁻¹ = r
  simp
  rw [hs 1 0, hs 2 0, hs 2 1]
  ring

/-! ## The scene -/

structure Scene where
  mu : Fin 128 → Fin 3 → ℝ
  op : Fin 128 → ℝ
  ft : Fin 128 → Fin 16 → ℝ
  cov : Fin 128 → Fin 3 → Fin 3 → ℝ
  symm : ∀ g a b, cov g a b = cov g b a
  det_ne : ∀ g, det (cov g) ≠ 0

namespace Scene
variable (S : Scene)

/-- From Gaussian `g`'s mean to voxel `n`'s centre. -/
def diff (g : Fin 128) (n : ℕ) (a : Fin 3) : ℝ := centre n a - S.mu g a

/-- The squared Mahalanobis distance. -/
def maha (g : Fin 128) (n : ℕ) : ℝ := quad (S.cov g) (S.diff g n)

/-- 1 where Gaussian `g` counts at voxel `n`. -/
def mask (n : ℕ) (g : Fin 128) : ℝ := if S.maha g n ≤ 4 then 1 else 0

/-- The Gaussian's weight where it counts. -/
def weight (n : ℕ) (g : Fin 128) : ℝ := if S.maha g n ≤ 4 then Real.exp (-1 / 2 * S.maha g n) else 0

/-- The mean over the Gaussians that count of a quantity times its weight; zero where none counts. -/
def mean (a : Fin 128 → ℝ) (n : ℕ) : ℝ :=
  (∑ g, a g * S.weight n g) * (1 / max (∑ g, S.mask n g) 1)

end Scene

/-! ## The mean, one Gaussian at a time -/

/-- The sum over the Gaussians before `k`. -/
def psum (f : Fin 128 → ℝ) (k : ℕ) : ℝ := ∑ g : Fin 128, if g.val < k then f g else 0

theorem psum_zero (f : Fin 128 → ℝ) : psum f 0 = 0 := by simp [psum]

theorem psum_all (f : Fin 128 → ℝ) : psum f 128 = ∑ g, f g :=
  Finset.sum_congr rfl fun g _ => if_pos g.isLt

theorem psum_succ (f : Fin 128 → ℝ) (k : ℕ) (hk : k < 128) : psum f (k + 1) = psum f k + f ⟨k, hk⟩ := by
  have h : ∀ g : Fin 128, (if g.val < k + 1 then f g else 0) =
      (if g.val < k then f g else 0) + (if g = ⟨k, hk⟩ then f g else 0) := by
    intro g
    by_cases h1 : g.val < k
    · have : g ≠ ⟨k, hk⟩ := by rintro rfl; simp at h1
      simp [h1, this, Nat.lt_succ_of_lt h1]
    · by_cases h2 : g = ⟨k, hk⟩
      · simp [h2]
      · have : ¬ g.val < k + 1 := by
          intro h; exact h2 (Fin.ext (by simp; omega))
        simp [h1, h2, this]
  simp only [psum, h, Finset.sum_add_distrib, Finset.sum_ite_eq', Finset.mem_univ, if_true]

namespace Scene
variable (S : Scene)

/-- The mean over the Gaussians before `k`. -/
def part (a : Fin 128 → ℝ) (n k : ℕ) : ℝ :=
  psum (fun g => a g * S.weight n g) k * (1 / max (psum (S.mask n) k) 1)

theorem part_all (a : Fin 128 → ℝ) (n : ℕ) : S.part a n 128 = S.mean a n := by
  simp only [part, mean, psum_all]

theorem part_zero (a : Fin 128 → ℝ) (n : ℕ) : S.part a n 0 = 0 := by simp [part, psum_zero]

/-- Either nothing counted yet, and the sum is still zero, or at least one did. -/
theorem count_cases (a : Fin 128 → ℝ) (n : ℕ) : ∀ k ≤ 128,
    (psum (S.mask n) k = 0 ∧ psum (fun g => a g * S.weight n g) k = 0) ∨ 1 ≤ psum (S.mask n) k
  | 0, _ => Or.inl ⟨psum_zero _, psum_zero _⟩
  | k + 1, hk => by
    have hk' : k < 128 := hk
    have ih := count_cases a n k hk'.le
    rw [psum_succ _ k hk', psum_succ _ k hk']
    by_cases h : S.maha ⟨k, hk'⟩ n ≤ 4
    · right
      rcases ih with ⟨h0, _⟩ | h1 <;> simp only [mask, h, if_true] at * <;> linarith
    · simpa [mask, weight, h] using ih

theorem count_nonneg (n k : ℕ) : 0 ≤ psum (S.mask n) k :=
  Finset.sum_nonneg fun g _ => by unfold mask; split_ifs <;> norm_num

/-- One Gaussian's step: it moves the mean towards its own value by one over the new count. -/
theorem mean_step (a : Fin 128 → ℝ) (n k : ℕ) (hk : k < 128) (ε : ℝ) (hε : ε ≤ 1) (hε0 : 0 < ε) :
    S.part a n k + S.mask n ⟨k, hk⟩ * (a ⟨k, hk⟩ * Real.exp (-1 / 2 * S.maha ⟨k, hk⟩ n) - S.part a n k)
      / max (psum (S.mask n) k + S.mask n ⟨k, hk⟩) ε = S.part a n (k + 1) := by
  have hc := S.count_nonneg n k
  have hcases := S.count_cases a n k hk.le
  unfold part
  rw [psum_succ _ k hk, psum_succ _ k hk]
  by_cases h : S.maha ⟨k, hk⟩ n ≤ 4
  · simp only [mask, weight, h, if_true]
    rw [show psum (fun g => a g * if S.maha g n ≤ 4 then Real.exp (-1 / 2 * S.maha g n) else 0) k =
        psum (fun g => a g * S.weight n g) k from rfl]
    generalize psum (S.mask n) k = c at hc hcases ⊢
    generalize psum (fun g => a g * S.weight n g) k = s at hcases ⊢
    generalize a ⟨k, hk⟩ * Real.exp (-1 / 2 * S.maha ⟨k, hk⟩ n) = q
    rw [max_eq_left (show ε ≤ c + 1 by linarith), max_eq_left (show (1 : ℝ) ≤ c + 1 by linarith)]
    have hne : c + 1 ≠ 0 := by positivity
    rcases hcases with ⟨rfl, rfl⟩ | h1
    · simp
    · have hc0 : c ≠ 0 := by positivity
      rw [max_eq_left h1]
      field_simp
      ring
  · simp [mask, weight, h]

end Scene

end Splat

end
-- ==== Proof.KernelRead.lean ====
/-
  What a chunk of the kernel stores, read on a scene: a lane's opacity and features are the scene's means at
  the lane's voxel (`dens_real`, `feats_real`).
-/
module

public import proofs.«01_k».proof.Proof.Lanes
public import proofs.«01_k».proof.Proof.Consts
public import proofs.«01_k».proof.Proof.Scene

@[expose] public section

set_option maxRecDepth 16384

noncomputable section

namespace Cert.KernelIdeal.Chunk

open Idealize.ShloMosaic Idealize.SL.Sem
open Cert.KernelIdeal Cert.KernelIdeal.Gen
open Splat

/-- The table holds the scene: features, means, opacity, covariance row by row. -/
structure Holds (X : Vec Ideal S128x29 .f32) (S : Scene) : Prop where
  ft : ∀ (g : Fin 128) (f : Fin 16), X (ix2 g ⟨f.val, by omega⟩) = (S.ft g f : EReal)
  mu : ∀ (g : Fin 128) (a : Fin 3), X (ix2 g ⟨16 + a.val, by omega⟩) = (S.mu g a : EReal)
  op : ∀ g : Fin 128, X (ix2 g 19) = (S.op g : EReal)
  cov : ∀ (g : Fin 128) (a b : Fin 3), X (ix2 g ⟨20 + 3 * a.val + b.val, by omega⟩) = (S.cov g a b : EReal)

variable {X : Vec Ideal S128x29 .f32} {S : Scene} (H : Holds X S)
include H

/-! ## The columns -/

theorem c00_at (g : Fin 128) (l : Fin 1) : c00 X (ix2 g l) = (S.cov g 0 0 : EReal) := by
  pointwise [c00]; exact H.cov g 0 0
theorem c01_at (g : Fin 128) (l : Fin 1) : c01 X (ix2 g l) = (S.cov g 0 1 : EReal) := by
  pointwise [c01]; exact H.cov g 0 1
theorem c02_at (g : Fin 128) (l : Fin 1) : c02 X (ix2 g l) = (S.cov g 0 2 : EReal) := by
  pointwise [c02]; exact H.cov g 0 2
theorem c11_at (g : Fin 128) (l : Fin 1) : c11 X (ix2 g l) = (S.cov g 1 1 : EReal) := by
  pointwise [c11]; exact H.cov g 1 1
theorem c12_at (g : Fin 128) (l : Fin 1) : c12 X (ix2 g l) = (S.cov g 1 2 : EReal) := by
  pointwise [c12]; exact H.cov g 1 2
theorem c22_at (g : Fin 128) (l : Fin 1) : c22 X (ix2 g l) = (S.cov g 2 2 : EReal) := by
  pointwise [c22]; exact H.cov g 2 2
theorem mux_at (g : Fin 128) (l : Fin 1) : mux X (ix2 g l) = (S.mu g 0 : EReal) := by
  pointwise [mux]; exact H.mu g 0
theorem muy_at (g : Fin 128) (l : Fin 1) : muy X (ix2 g l) = (S.mu g 1 : EReal) := by
  pointwise [muy]; exact H.mu g 1
theorem muz_at (g : Fin 128) (l : Fin 1) : muz X (ix2 g l) = (S.mu g 2 : EReal) := by
  pointwise [muz]; exact H.mu g 2
theorem opac_at (g : Fin 128) (l : Fin 1) : opac X (ix2 g l) = (S.op g : EReal) := by
  pointwise [opac]; exact H.op g

/-! ## The inverse -/

/-- One over Gaussian `g`'s determinant. -/
abbrev rd (S : Scene) (g : Fin 128) : ℝ :=
  1 / det6 (S.cov g 0 0) (S.cov g 0 1) (S.cov g 0 2) (S.cov g 1 1) (S.cov g 1 2) (S.cov g 2 2)

theorem rdet_at (g : Fin 128) (l : Fin 1) : rdet X (ix2 g l) = (rd S g : EReal) := by
  have hd : det6 (S.cov g 0 0) (S.cov g 0 1) (S.cov g 0 2) (S.cov g 1 1) (S.cov g 1 2) (S.cov g 2 2) ≠ 0 := by
    rw [← det_sym _ (S.symm g)]; exact S.det_ne g
  pointwise [rdet, m00, m01, m02]
  rw [c00_at H, c01_at H, c02_at H, c11_at H, c12_at H, c22_at H]
  simp only [← EReal.coe_mul, ← EReal.coe_sub, ← EReal.coe_add]
  rw [Ideal.div_coe (by exact hd), one_mul]
  rfl

theorem i00_at (g : Fin 128) (l : Fin 1) :
    i00 X (ix2 g l) = (((S.cov g 1 1 * S.cov g 2 2 - S.cov g 1 2 * S.cov g 1 2) * rd S g : ℝ) : EReal) := by
  pointwise [i00, m00]
  rw [rdet_at H, c11_at H, c12_at H, c22_at H]
  simp only [← EReal.coe_mul, ← EReal.coe_sub]
theorem i01_at (g : Fin 128) (l : Fin 1) :
    i01 X (ix2 g l) = (((S.cov g 0 2 * S.cov g 1 2 - S.cov g 0 1 * S.cov g 2 2) * rd S g : ℝ) : EReal) := by
  pointwise [i01, m01]
  rw [rdet_at H, c01_at H, c02_at H, c12_at H, c22_at H]
  simp only [← EReal.coe_mul, ← EReal.coe_sub]
theorem i02_at (g : Fin 128) (l : Fin 1) :
    i02 X (ix2 g l) = (((S.cov g 0 1 * S.cov g 1 2 - S.cov g 0 2 * S.cov g 1 1) * rd S g : ℝ) : EReal) := by
  pointwise [i02, m02]
  rw [rdet_at H, c01_at H, c02_at H, c12_at H, c11_at H]
  simp only [← EReal.coe_mul, ← EReal.coe_sub]
theorem i11_at (g : Fin 128) (l : Fin 1) :
    i11 X (ix2 g l) = (((S.cov g 0 0 * S.cov g 2 2 - S.cov g 0 2 * S.cov g 0 2) * rd S g : ℝ) : EReal) := by
  pointwise [i11, m11]
  rw [rdet_at H, c00_at H, c02_at H, c22_at H]
  simp only [← EReal.coe_mul, ← EReal.coe_sub]
theorem i12_at (g : Fin 128) (l : Fin 1) :
    i12 X (ix2 g l) = (((S.cov g 0 1 * S.cov g 0 2 - S.cov g 0 0 * S.cov g 1 2) * rd S g : ℝ) : EReal) := by
  pointwise [i12, m12]
  rw [rdet_at H, c00_at H, c01_at H, c02_at H, c12_at H]
  simp only [← EReal.coe_mul, ← EReal.coe_sub]
theorem i22_at (g : Fin 128) (l : Fin 1) :
    i22 X (ix2 g l) = (((S.cov g 0 0 * S.cov g 1 1 - S.cov g 0 1 * S.cov g 0 1) * rd S g : ℝ) : EReal) := by
  pointwise [i22, m22]
  rw [rdet_at H, c00_at H, c01_at H, c11_at H]
  simp only [← EReal.coe_mul, ← EReal.coe_sub]

/-- The weighted features, and the opacity in the last place. -/
def quantity (S : Scene) (f : Fin 17) (g : Fin 128) : ℝ :=
  if h : f.val < 16 then S.op g * S.ft g ⟨f.val, h⟩ else S.op g

theorem rhs_at (g : Fin 128) (f : Fin 17) : rhs X (ix2 g f) = (quantity S f g : EReal) := by
  pointwise [rhs]
  unfold quantity
  split
  · rename_i h
    rw [opac_at H, H.ft g ⟨f.val, h⟩, mul_comm, ← EReal.coe_mul]
  · rename_i h
    exact opac_at H g _

/-! ## The arithmetic of a chunk -/

section Body
variable {ix r : IVec S1x128 32} {n : ℕ} (hn : n < 80000) (l : Fin 128)

omit H in
theorem word_real (v : ℕ) (hv : v < 80000) :
    (FloatOps.sitofp .f32 (BitVec.ofNat 32 v) : Ideal .f32) = ((v : ℝ) : EReal) := by
  show (((BitVec.ofNat 32 v).toInt : ℝ) : EReal) = _
  rw [toInt_small v hv]; norm_cast

omit H in
theorem centre_at (lo : BitVec 32) (x : ℝ) (hlo : Ideal.ofBits .f32 lo = (x : EReal)) (v : IVec S1x128 32) (k : ℕ)
    (hv : v (ix2 0 l) = BitVec.ofNat 32 k) (hk : k < 80000) :
    Chunk.centre (F := Ideal) lo v (ix2 0 l) = (ctr x k : EReal) := by
  pointwise [Chunk.centre]
  rw [hv, word_real k hk, bits_half, bits_width, hlo]
  simp only [← EReal.coe_mul, ← EReal.coe_add]
  rfl

variable (hix : ix (ix2 0 l) = BitVec.ofNat 32 (n / 800)) (hr : r (ix2 0 l) = BitVec.ofNat 32 (n % 800))
include hn hix in
theorem dx_at (g : Fin 128) : dx X ix (ix2 g l) = (S.diff g n 0 : EReal) := by
  pointwise [dx]
  rw [centre_at l _ _ bits_neg_forty ix (n / 800) hix (by omega), mux_at H, ← EReal.coe_sub]
  rfl

include hn hr in
theorem dy_at (g : Fin 128) : dy X r (ix2 g l) = (S.diff g n 1 : EReal) := by
  pointwise [dy]
  rw [centre_at l _ _ bits_neg_forty _ (n / 8 % 100) (by pointwise; rw [hr]; exact shift_at n) (by omega), muy_at H,
    ← EReal.coe_sub]
  rfl

include hn hr in
theorem dz_at (g : Fin 128) : dz X r (ix2 g l) = (S.diff g n 2 : EReal) := by
  pointwise [dz]
  rw [centre_at l _ _ bits_neg_one _ (n % 8) (by pointwise; rw [hr]; exact low_at n) (by omega), muz_at H,
    ← EReal.coe_sub]
  rfl

include hn hix hr in
theorem maha_at (g : Fin 128) : maha X ix r (ix2 g l) = (S.maha g n : EReal) := by
  pointwise [maha, t0, t1, t2]
  rw [dx_at H hn l hix, dy_at H hn l hr, dz_at H hn l hr, i00_at H, i01_at H, i02_at H, i11_at H, i12_at H, i22_at H]
  simp only [← EReal.coe_mul, ← EReal.coe_add]
  rw [Scene.maha, quad_sym _ (S.symm g)]
  rfl

omit H in
theorem exp2_mhl2e (x : ℝ) :
    (FloatOps.exp2 ((x : EReal) * (Named.named κ "mhl2e" 0xBF38AA3B#32 : Ideal .f32) : Ideal .f32) : Ideal .f32)
      = (Real.exp (-1 / 2 * x) : EReal) := by
  have hκ : (Named.named κ "mhl2e" 0xBF38AA3B#32 : Ideal .f32) = ((-1 / 2 * (Real.log 2)⁻¹ : ℝ) : EReal) :=
    IdealRules.named_const.ideal_named_scalar _ _ _ _ rfl
  rw [hκ, ← EReal.coe_mul]
  show ((Real.rpow 2 _ : ℝ) : EReal) = _
  have h2 : Real.log 2 ≠ 0 := (Real.log_pos one_lt_two).ne'
  congr 1
  show (2 : ℝ) ^ (x * (-1 / 2 * (Real.log 2)⁻¹)) = _
  rw [Real.rpow_def_of_pos two_pos]
  congr 1
  field_simp

include hn hix hr in
theorem weight_at (g : Fin 128) : weight X ix r (ix2 g l) = (S.weight n g : EReal) := by
  pointwise [weight, inside]
  rw [maha_at H hn l hix hr, exp2_mhl2e, bits_four, Scene.weight]
  simp only [EReal.coe_le_coe_iff]
  split <;> rfl

omit H in
theorem sum_coe {ι : Type} (s : Finset ι) (f : ι → ℝ) : (∑ g ∈ s, (f g : EReal)) = ((∑ g ∈ s, f g : ℝ) : EReal) := by
  classical
  induction s using Finset.induction_on with
  | empty => simp
  | insert a s ha ih => rw [Finset.sum_insert ha, Finset.sum_insert ha, ih, EReal.coe_add]

include hn hix hr in
theorem count_at : count X ix r (ix2 0 l) = ((∑ g, S.mask n g : ℝ) : EReal) := by
  pointwise [count, inside]
  rw [← sum_coe]
  refine Finset.sum_congr rfl fun g _ => ?_
  rw [maha_at H hn l hix hr, bits_four, Scene.mask]
  simp only [EReal.coe_le_coe_iff]
  split <;> simp

include hn hix hr in
theorem out_at (f : Fin 17) : outv X ix r (ix2 f l) = (S.mean (quantity S f) n : EReal) := by
  pointwise [outv, scale]
  rw [count_at H hn l hix hr]
  simp only [rhs_at H, weight_at H hn l hix hr, ← EReal.coe_mul]
  rw [sum_coe, ← EReal.coe_one, ← EReal.coe_strictMono.monotone.map_max, Ideal.div_coe (by positivity), EReal.coe_one, one_mul,
    ← EReal.coe_mul]
  rfl

end Body

/-! ## A chunk -/

/-- The opacity a chunk stores for a lane. -/
theorem dens_real (i : grid0.Coords) (c : ℕ) (hc : c < 125) (l : Fin 128) :
    chunkDens i X c (ix3 0 0 l) = (S.mean S.op (16000 * (i 0).val + c * 128 + l.val) : EReal) := by
  have hi : (i 0).val < 5 := (i 0).isLt
  pointwise [chunkDens, densOut]
  rw [show S.op = quantity S 16 from rfl]
  exact out_at H (by omega) l (chunkIx_at _ hi c hc l) (chunkR_at _ c hc l) 16

/-- The features a chunk stores for a lane. -/
theorem feats_real (i : grid0.Coords) (c : ℕ) (hc : c < 125) (f : Fin 16) (l : Fin 128) :
    chunkFeats i X c (ix2 f l) = (S.mean (fun g => S.op g * S.ft g f) (16000 * (i 0).val + c * 128 + l.val) : EReal) := by
  have hi : (i 0).val < 5 := (i 0).isLt
  pointwise [chunkFeats, featsOut]
  rw [show (fun g => S.op g * S.ft g f) = quantity S ⟨f.val, by omega⟩ by
    funext g; simp [quantity]]
  exact out_at H (by omega) l (chunkIx_at _ hi c hc l) (chunkR_at _ c hc l) _

end Cert.KernelIdeal.Chunk

end
-- ==== Proof.Given.lean ====
module

public import Idealize.ShloMosaic.Lib.Pointwise
public import proofs.«01_k».proof.Proof.Scene
import all proofs.«01_k».proof.Proof.Scene

/-!
# Arguments that describe a scene

What it says of the five argument arrays that they hold a scene: every entry is a real number, and the grid is the grid of
voxel centres.
-/

@[expose] public section

noncomputable section
open Idealize Idealize.ShloMosaic Idealize.ShloMosaic.Pipeline Splat

namespace Splat

/-- The arrays hold the scene: `A0` the voxel centres, `A1` the means, `A2` the opacities, `A3` the features, `A4` the
covariances. -/
structure Given (A0 : Vec Ideal ⟨2, ![80000, 3]⟩ .f32) (A1 : Vec Ideal ⟨3, ![1, 128, 3]⟩ .f32) (A2 : Vec Ideal ⟨3, ![1, 128, 1]⟩ .f32)
    (A3 : Vec Ideal ⟨3, ![1, 128, 16]⟩ .f32) (A4 : Vec Ideal ⟨4, ![1, 128, 3, 3]⟩ .f32) (S : Scene) : Prop where
  grid : ∀ (n : Fin 80000) (a : Fin 3), A0 (ix2 n a) = ((centre n a : ℝ) : EReal)
  mu : ∀ (g : Fin 128) (a : Fin 3), A1 (ix3 0 g a) = ((S.mu g a : ℝ) : EReal)
  op : ∀ g : Fin 128, A2 (ix3 0 g 0) = ((S.op g : ℝ) : EReal)
  ft : ∀ (g : Fin 128) (f : Fin 16), A3 (ix3 0 g f) = ((S.ft g f : ℝ) : EReal)
  cov : ∀ (g : Fin 128) (a b : Fin 3), A4 (ix4 0 g a b) = ((S.cov g a b : ℝ) : EReal)

end Splat

end
-- ==== Proof.KernelArrays.lean ====
/-
  The kernel's result arrays after the run, over a scene its table holds: each block's chunks put together
  (`out1_at`, `out2_at`), the blocks put together (`final1`, `final2`), and the host operations around the
  region (`holds`, `res_dens`, `res_feats`).
-/
module

public import proofs.«01_k».proof.Proof.KernelRead
public import proofs.«01_k».proof.Proof.Given
public import Idealize.ShloMosaic.Lib.Pipeline.ValueKit
public import Idealize.ShloMosaic.Lib.StableHlo.ReadAt

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Chunk
open Splat

/-! ## One block -/

section Block
variable {X : Vec Ideal S128x29 .f32} {S : Scene} (H : Holds X S)
include H

theorem out1_at (i : grid0.Coords) (y : S125x1x128.Idx) :
    out0_1 i X y = (S.mean S.op (16000 * (i 0).val + (y 0 : ℕ) * 128 + (y 2 : ℕ)) : EReal) := by
  have h0 : (y 0 : ℕ) < 125 := (y 0).isLt
  have h1 : (y 1 : ℕ) < 1 := (y 1).isLt
  have h2 : (y 2 : ℕ) < 128 := (y 2).isLt
  rw [dens_canon]
  refine View.canon_ofFn_unit_eq_of_forall _ _ _ _ y _ ⟨⟨124 - (y 0 : ℕ), by omega⟩, fun a => ?_⟩ fun k x hx => ?_
  · fin_cases a <;> simp [S1x1x128] <;> omega
  · have hk := k.isLt
    have e0 : (y 0 : ℕ) = 124 - k.val + (x 0 : ℕ) := hx 0
    have e2 : (y 2 : ℕ) = 0 + (x 2 : ℕ) := hx 2
    have hx0 : (x 0 : ℕ) < 1 := (x 0).isLt
    have hx1 : (x 1 : ℕ) < 1 := (x 1).isLt
    have hxe : x = ix3 (0 : Fin 1) (0 : Fin 1) (x 2) := by
      funext a
      fin_cases a
      · exact Fin.ext (by show (x 0 : ℕ) = 0; omega)
      · exact Fin.ext (by show (x 1 : ℕ) = 0; omega)
      · rfl
    rw [hxe]
    refine (dens_real H i (124 - k.val) (by omega) (x 2)).trans ?_
    rw [e0, e2, show (x 0 : ℕ) = 0 by omega, Nat.add_zero, Nat.zero_add]

theorem out2_at (i : grid0.Coords) (y : S16x16000.Idx) :
    out0_2 i X y = (S.mean (fun g => S.op g * S.ft g (y 0)) (16000 * (i 0).val + (y 1 : ℕ)) : EReal) := by
  have h0 : (y 0 : ℕ) < 16 := (y 0).isLt
  have h1 : (y 1 : ℕ) < 16000 := (y 1).isLt
  rw [feats_canon]
  refine View.canon_ofFn_unit_eq_of_forall _ _ _ _ y _ ⟨⟨124 - (y 1 : ℕ) / 128, by omega⟩, fun a => ?_⟩ fun k x hx => ?_
  · fin_cases a <;> simp [S16x128] <;> omega
  · have hk := k.isLt
    have e0 : (y 0 : ℕ) = 0 + (x 0 : ℕ) := hx 0
    have e1 : (y 1 : ℕ) = (124 - k.val) * 128 + (x 1 : ℕ) := hx 1
    rw [eq_ix2 x]
    refine (feats_real H i (124 - k.val) (by omega) (x 0) (x 1)).trans ?_
    rw [e1, show y 0 = x 0 from Fin.ext (by omega), ← Nat.add_assoc]

end Block

/-! ## The arrays -/

section Whole
variable (m : (ℓ : Loc nD τ sig) → Buf (Elt Ideal) ℓ) (c : Dev nD)

theorem idx_val : ∀ t : Fin cfg0.N, win0_0.index t = ![0, 0] ∧ win0_1.index t = ![t.val, 0, 0] ∧ win0_2.index t = ![0, t.val]
    ∧ (grid0.coords t 0).val = t.val :=
  (by decide +kernel : ∀ t : Fin grid0.N, _)

/-- The table as the region finds it. -/
abbrev table : Vec Ideal S128x29 .f32 := V m c main_v4

theorem iblk_table (t : Fin cfg0.N) : (iblk m c 0 t : Vec Ideal S128x29 .f32) = table m c := by
  blk_ext! [iblk, idx_val t]

variable {S : Scene} (H : Holds (table m c) S)
include H

theorem final1 : (dats m 0 c).arrAt 1 (cfgs 0).N
    = (fun j : S625x1x128.Idx => (S.mean S.op ((j 0 : ℕ) * 128 + (j 2 : ℕ)) : EReal)) := by
  refine (dats m 0 c).arrAt_eq_of_covers 1 _ (by decide +kernel) fun t _ y => ?_
  blk_simp
  obtain ⟨-, h1, -, hg⟩ := idx_val t
  rw [after0_1, iblk_table, h1]
  refine (out1_at H (grid0.coords t) y).trans ?_
  rw [hg]
  show ((S.mean S.op _ : ℝ) : EReal) = S.mean S.op ((t.val * 125 + (y 0 : ℕ)) * 128 + (0 * 128 + (y 2 : ℕ)))
  congr 2
  ring

theorem final2 : (dats m 0 c).arrAt 2 (cfgs 0).N
    = (fun j : S16x80000.Idx => (S.mean (fun g => S.op g * S.ft g (j 0)) (j 1 : ℕ) : EReal)) := by
  refine (dats m 0 c).arrAt_eq_of_covers 2 _ (by decide +kernel) fun t _ y => ?_
  blk_simp
  obtain ⟨-, -, h2, hg⟩ := idx_val t
  have hf : (win0_2.blk t).view.emb y 0 = y 0 := Fin.ext (by blk_simp [idx_val t])
  rw [after0_2, iblk_table, h2]
  refine (out2_at H (grid0.coords t) y).trans ?_
  rw [hg, hf]
  show ((S.mean _ _ : ℝ) : EReal) = S.mean _ (t.val * 16000 + (y 1 : ℕ))
  rw [Nat.mul_comm]

omit H in
/-- After the region, the buffer of a window holds what the window's array holds. -/
theorem region_dens : Pipeline.withArrays (cfgs 0).spec c (V0 m c) (fun w => (dats m 0 c).arrAt w (cfgs 0).N) (Proc.devRef .tc main_v5_0)
    = (dats m 0 c).arrAt 1 (cfgs 0).N :=
  Pipeline.withArrays_arr (cfgs 0).spec (by decide) c (V0 m c) _ 1

omit H in
theorem region_feats : Pipeline.withArrays (cfgs 0).spec c (V0 m c) (fun w => (dats m 0 c).arrAt w (cfgs 0).N) (Proc.devRef .tc main_v5_1)
    = (dats m 0 c).arrAt 2 (cfgs 0).N :=
  Pipeline.withArrays_arr (cfgs 0).spec (by decide) c (V0 m c) _ 2

theorem res_dens : Pipeline.afterTail₀ cfgs (dats m) 0 (V0 m) [hostOps1] c main_v6
    = (fun j : S1x100x100x8x1.Idx => (S.mean S.op ((j 1 : ℕ) * 800 + (j 2 : ℕ) * 8 + (j 3 : ℕ)) : EReal)) := by
  funext j
  idx_vars j
  unfold Pipeline.afterTail₀
  after_reads_at
  rw [region_dens, final1 m c H]
  exact congrArg (fun n => ((S.mean S.op n : ℝ) : EReal)) (Nat.div_add_mod' _ 128)

theorem res_feats : Pipeline.afterTail₀ cfgs (dats m) 0 (V0 m) [hostOps1] c main_v8
    = (fun j : S1x100x100x8x16.Idx => (S.mean (fun g => S.op g * S.ft g (j 4)) ((j 1 : ℕ) * 800 + (j 2 : ℕ) * 8 + (j 3 : ℕ)) : EReal)) := by
  funext j
  idx_vars j
  unfold Pipeline.afterTail₀
  after_reads_at
  rw [region_feats, final2 m c H]
  rfl

omit H in
/-- The table puts the four arguments' columns side by side. -/
theorem holds (G : Given (m (c.tc.loc main_arg0)) (m (c.tc.loc main_arg1)) (m (c.tc.loc main_arg2)) (m (c.tc.loc main_arg3))
    (m (c.tc.loc main_arg4)) S) : Holds (table m c) S where
  ft g f := by
    unfold table V V0
    after_reads_at
    after_reads_at
    exact G.ft g f
  mu g a := by
    unfold table V V0
    after_reads_at
    after_reads_at
    exact G.mu g a
  op g := by
    unfold table V V0
    after_reads_at
    after_reads_at
    exact G.op g
  cov g a b := by
    unfold table V V0
    after_reads_at
    rw [dif_neg (by omega), dif_neg (by omega), dif_neg (by omega)]
    after_reads_at
    refine Eq.trans ?_ (G.cov g a b)
    exact congrArg₂ (fun x y : Fin 3 => m (c.tc.loc main_arg4) (ix4 0 g x y)) (Fin.ext (by show (_ : ℕ) / 3 = a.val; omega))
      (Fin.ext (by show (_ : ℕ) % 3 = b.val; omega))

end Whole

end Cert.KernelIdeal.Arrays

end
-- ==== Proof.PreRead.lean ====
/-
  The precondition, read: where it holds the arguments are real numbers that describe a scene (`given_of_pre`).
-/
module

public import proofs.«01_k».proof.Proof.Given
public import proofs.«01_k».proof.Proof.Consts
public import proofs.«01_k».proof.Pre_splat_inputs

@[expose] public section

set_option maxRecDepth 16384

noncomputable section

namespace Cert.Pre_splat_inputs.Reading

open Idealize.ShloMosaic
open Cert.Pre_splat_inputs
open Splat

/-! ## One entry -/

theorem ofBool_one {b : Bool} : BitVec.ofBool b = 1#1 ↔ b = true := by cases b <;> decide

/-- An entry whose absolute value is below infinity is a real number. -/
theorem real_of_lt {x : EReal} (h : max x (-x) < ⊤) : ((x.toReal : ℝ) : EReal) = x := by
  refine EReal.coe_toReal ?_ ?_
  · rintro rfl; simp at h
  · rintro rfl; simp at h

/-- A coordinate of a voxel's centre, as the grid's recipe computes it. -/
theorem ctr_read (lo : ℝ) (v : ℕ) (hv : v < 80000) :
    (FloatOps.sitofp (F := Ideal) FTy.f32 (BitVec.ofNat 32 v) + ((1 / 2 : ℝ) : EReal)) * ((13421773 / 16777216 : ℝ) : EReal) + (lo : EReal)
      = ((ctr lo v : ℝ) : EReal) := by
  have h1 : (BitVec.ofNat 32 v).toNat = v := by rw [BitVec.toNat_ofNat]; omega
  have h2 : (BitVec.ofNat 32 v).toInt = v := by rw [BitVec.toInt_eq_toNat_of_lt (by rw [h1]; omega), h1]
  have h3 : (FloatOps.sitofp FTy.f32 (BitVec.ofNat 32 v) : Ideal .f32) = ((v : ℝ) : EReal) := by
    show (((BitVec.ofNat 32 v).toInt : ℝ) : EReal) = _
    rw [h2]; rfl
  rw [h3, ctr, EReal.coe_add, EReal.coe_mul, EReal.coe_add]

/-! ## The precondition's arrays, one entry at a time -/

section Entries
variable [hPre : Cert.Pre_splat_inputs.Facts]
variable (A0 : Vec Ideal S80000x3 .f32) (A1 : Vec Ideal S1x128x3 .f32) (A2 : Vec Ideal S1x128x1 .f32)
    (A3 : Vec Ideal S1x128x16 .f32) (A4 : Vec Ideal S1x128x3x3 .f32)

theorem grid_at (h : (fn (F := Ideal) A0 A1 A2 A3 A4).1 = fun _ => 1#1) (n : Fin 80000) (a : Fin 3) :
    A0 (ix2 n a) = ((centre n a : ℝ) : EReal) := by
  replace h := congrFun h (ix2 n a)
  revert h
  pointwise [fn, fn_part1, fn_part2]
  rw [ofBool_one, decide_eq_true_iff, bits_half, bits_width, bits_neg_forty, bits_neg_one,
    ctr_read _ _ (by omega), ctr_read _ _ (by omega), ctr_read _ _ (by omega)]
  intro h
  rw [h]
  fin_cases a <;> rfl

theorem mu_at (h : (fn (F := Ideal) A0 A1 A2 A3 A4).2.1 = fun _ => 1#1) (g : Fin 128) (a : Fin 3) :
    (((A1 (ix3 0 g a) : EReal).toReal : ℝ) : EReal) = A1 (ix3 0 g a) := by
  replace h := congrFun h (ix3 0 g a)
  revert h
  pointwise [fn, fn_part1, fn_part2]
  rw [ofBool_one, decide_eq_true_iff, bits_inf]
  exact real_of_lt

theorem op_at (h : (fn (F := Ideal) A0 A1 A2 A3 A4).2.2.1 = fun _ => 1#1) (g : Fin 128) :
    (((A2 (ix3 0 g 0) : EReal).toReal : ℝ) : EReal) = A2 (ix3 0 g 0) := by
  replace h := congrFun h (ix3 0 g 0)
  revert h
  pointwise [fn, fn_part1, fn_part2]
  rw [ofBool_one, decide_eq_true_iff, bits_inf]
  exact real_of_lt

theorem ft_at (h : (fn (F := Ideal) A0 A1 A2 A3 A4).2.2.2.1 = fun _ => 1#1) (g : Fin 128) (f : Fin 16) :
    (((A3 (ix3 0 g f) : EReal).toReal : ℝ) : EReal) = A3 (ix3 0 g f) := by
  replace h := congrFun h (ix3 0 g f)
  revert h
  pointwise [fn, fn_part1, fn_part2]
  rw [ofBool_one, decide_eq_true_iff, bits_inf]
  exact real_of_lt

theorem cov_at (h : (fn (F := Ideal) A0 A1 A2 A3 A4).2.2.2.2.1 = fun _ => 1#1) (g : Fin 128) (a b : Fin 3) :
    (((A4 (ix4 0 g a b) : EReal).toReal : ℝ) : EReal) = A4 (ix4 0 g a b) := by
  replace h := congrFun h (ix4 0 g a b)
  revert h
  pointwise [fn, fn_part1, fn_part2]
  rw [ofBool_one, decide_eq_true_iff, bits_inf]
  exact real_of_lt

theorem symm_at (h : (fn (F := Ideal) A0 A1 A2 A3 A4).2.2.2.2.2.1 = fun _ => 1#1) (g : Fin 128) (a b : Fin 3) :
    A4 (ix4 0 g a b) = A4 (ix4 0 g b a) := by
  replace h := congrFun h (ix4 0 g a b)
  revert h
  pointwise [fn, fn_part1, fn_part2]
  rw [ofBool_one, decide_eq_true_iff]
  exact id

theorem det_at (h : (fn (F := Ideal) A0 A1 A2 A3 A4).2.2.2.2.2.2 = fun _ => 1#1) (g : Fin 128) (C : Fin 3 → Fin 3 → ℝ)
    (hC : ∀ a b, A4 (ix4 0 g a b) = ((C a b : ℝ) : EReal)) : det C ≠ 0 := by
  replace h := congrFun h (ix2 0 g)
  revert h
  pointwise [fn, fn_part1, fn_part2, fn_cross, fn_cross_part1]
  rw [ofBool_one, decide_eq_true_iff]
  simp only [hC, ← EReal.coe_mul, ← EReal.coe_sub]
  intro h h0
  refine h ?_
  rw [← EReal.coe_zero, ← h0, det, Fin.sum_univ_three, Fin.sum_univ_three, EReal.coe_add, EReal.coe_add]
  rfl

/-- Arguments that meet the precondition describe a scene. -/
theorem given_of_pre (h0 : (fn (F := Ideal) A0 A1 A2 A3 A4).1 = fun _ => 1#1)
    (h1 : (fn (F := Ideal) A0 A1 A2 A3 A4).2.1 = fun _ => 1#1)
    (h2 : (fn (F := Ideal) A0 A1 A2 A3 A4).2.2.1 = fun _ => 1#1)
    (h3 : (fn (F := Ideal) A0 A1 A2 A3 A4).2.2.2.1 = fun _ => 1#1)
    (h4 : (fn (F := Ideal) A0 A1 A2 A3 A4).2.2.2.2.1 = fun _ => 1#1)
    (h5 : (fn (F := Ideal) A0 A1 A2 A3 A4).2.2.2.2.2.1 = fun _ => 1#1)
    (h6 : (fn (F := Ideal) A0 A1 A2 A3 A4).2.2.2.2.2.2 = fun _ => 1#1) : ∃ S : Scene, Given A0 A1 A2 A3 A4 S :=
  ⟨{ mu := fun g a => (A1 (ix3 0 g a) : EReal).toReal
     op := fun g => (A2 (ix3 0 g 0) : EReal).toReal
     ft := fun g f => (A3 (ix3 0 g f) : EReal).toReal
     cov := fun g a b => (A4 (ix4 0 g a b) : EReal).toReal
     symm := fun g a b => congrArg EReal.toReal (symm_at A0 A1 A2 A3 A4 h5 g a b)
     det_ne := fun g => det_at A0 A1 A2 A3 A4 h6 g _ fun a b => (cov_at A0 A1 A2 A3 A4 h4 g a b).symm },
   { grid := fun n a => grid_at A0 A1 A2 A3 A4 h0 n a
     mu := fun g a => (mu_at A0 A1 A2 A3 A4 h1 g a).symm
     op := fun g => (op_at A0 A1 A2 A3 A4 h2 g).symm
     ft := fun g f => (ft_at A0 A1 A2 A3 A4 h3 g f).symm
     cov := fun g a b => (cov_at A0 A1 A2 A3 A4 h4 g a b).symm }⟩

end Entries

end Cert.Pre_splat_inputs.Reading

end
-- ==== Proof.ReferenceStep.lean ====
module

public import Idealize.ShloMosaic.Lib.Pointwise
public import Idealize.ShloMosaic.Lib.StableHlo.ReadAt
public import proofs.«01_k».proof.Proof.Given
public import proofs.«01_k».proof.Proof.Consts
public import proofs.«01_k».proof.Proof.Gen.ReferenceIdeal.Run

@[expose] public section

set_option maxRecDepth 16384

noncomputable section

namespace Cert.ReferenceIdeal.Step

open Idealize.ShloMosaic Idealize.ShloMosaic.TcCoe Idealize.SL.Sem Idealize.ShloMosaic.StableHlo
open Cert.ReferenceIdeal Cert.ReferenceIdeal.Gen Cert.ReferenceIdeal.Value
open Splat

/-- Before trip `k` the loop carries the scene's arrays as they came in, the trip's number, and the running means and counts
over the first `k` Gaussians. -/
structure At (V : Valuation τ sig (Elt Ideal)) (S : Scene) (k : ℕ) : Prop where
  ctr : ∀ j : S_.Idx, (V (Proc.devRef .tc main_v7_5) : IVec S_ 32) j = BitVec.ofNat 32 k
  mu : ∀ (g : Fin 128) (a : Fin 3), (V (Proc.devRef .tc main_v7_0) : Vec Ideal S128x1x3 .f32) (ix3 g 0 a) = ((S.mu g a : ℝ) : EReal)
  op : ∀ g : Fin 128, (V (Proc.devRef .tc main_v7_1) : Vec Ideal S128x1x1 .f32) (ix3 g 0 0) = ((S.op g : ℝ) : EReal)
  cov : ∀ (g : Fin 128) (a b : Fin 3), (V (Proc.devRef .tc main_v7_2) : Vec Ideal S128x1x3x3 .f32) (ix4 g 0 a b) = ((S.cov g a b : ℝ) : EReal)
  ft : ∀ (g : Fin 128) (f : Fin 16), (V (Proc.devRef .tc main_v7_3) : Vec Ideal S128x1x16 .f32) (ix3 g 0 f) = ((S.ft g f : ℝ) : EReal)
  grid : ∀ (n : Fin 80000) (a : Fin 3), (V (Proc.devRef .tc main_v7_4) : Vec Ideal S80000x3 .f32) (ix2 n a) = ((centre n a : ℝ) : EReal)
  dens : ∀ n : Fin 80000, (V (Proc.devRef .tc main_v7_6) : Vec Ideal S1x80000x1 .f32) (ix3 0 n 0) = ((S.part S.op n k : ℝ) : EReal)
  feats : ∀ (n : Fin 80000) (f : Fin 16), (V (Proc.devRef .tc main_v7_7) : Vec Ideal S1x80000x16 .f32) (ix3 0 n f)
    = ((S.part (fun g => S.op g * S.ft g f) n k : ℝ) : EReal)
  count : ∀ n : Fin 80000, (V (Proc.devRef .tc main_v7_8) : Vec Ideal S1x80000x1 .f32) (ix3 0 n 0) = ((psum (S.mask n) k : ℝ) : EReal)

/-! ## Taking a trip's Gaussian -/

theorem toInt_trip (k : ℕ) (h : k < 128) : (BitVec.ofNat 32 k).toInt = k := by
  have : (BitVec.ofNat 32 k).toNat = k := by rw [BitVec.toNat_ofNat]; omega
  rw [BitVec.toInt_eq_toNat_of_lt (by rw [this]; omega), this]

/-- A slice that takes the `k`-th of 128 along the first axis and the other axes whole. -/
theorem slice3 {d k : ℕ} (hk : k < 128) (x : Vec Ideal ⟨3, ![128, 1, d]⟩ .f32) (start : Fin 3 → Int) (h0 : start 0 = k)
    (h : (⟨3, ![128, 1, d]⟩ : Shape).Slices (fun _ => 0) ⟨3, ![1, 1, d]⟩) (j : Fin d) :
    Host.dynamicSlice ⟨3, ![1, 1, d]⟩ x start h (ix3 0 0 j) = x (ix3 ⟨k, hk⟩ 0 j) := by
  rw [Host.dynamicSlice_apply]
  refine congrArg x (funext fun a => Fin.ext ?_)
  fin_cases a
  · show (min (max (start 0) 0) ((128 - 1 : ℕ) : ℤ)).toNat + 0 = k
    omega
  · show (min (max (start 1) 0) ((1 - 1 : ℕ) : ℤ)).toNat + 0 = 0
    omega
  · show (min (max (start 2) 0) ((d - d : ℕ) : ℤ)).toNat + j.val = j.val
    omega

theorem slice4 {d e k : ℕ} (hk : k < 128) (x : Vec Ideal ⟨4, ![128, 1, d, e]⟩ .f32) (start : Fin 4 → Int) (h0 : start 0 = k)
    (h : (⟨4, ![128, 1, d, e]⟩ : Shape).Slices (fun _ => 0) ⟨4, ![1, 1, d, e]⟩) (i : Fin d) (j : Fin e) :
    Host.dynamicSlice ⟨4, ![1, 1, d, e]⟩ x start h (ix4 0 0 i j) = x (ix4 ⟨k, hk⟩ 0 i j) := by
  rw [Host.dynamicSlice_apply]
  refine congrArg x (funext fun a => Fin.ext ?_)
  fin_cases a
  · show (min (max (start 0) 0) ((128 - 1 : ℕ) : ℤ)).toNat + 0 = k
    omega
  · show (min (max (start 1) 0) ((1 - 1 : ℕ) : ℤ)).toNat + 0 = 0
    omega
  · show (min (max (start 2) 0) ((d - d : ℕ) : ℤ)).toNat + i.val = i.val
    omega
  · show (min (max (start 3) 0) ((e - e : ℕ) : ℤ)).toNat + j.val = j.val
    omega

/-- The trip's update of a running mean, on the extended reals. -/
theorem mean_step_coe (S : Scene) {k : ℕ} (hk : k < 128) (a : Fin 128 → ℝ) (n : ℕ) :
    ((S.part a n k : ℝ) : EReal) + Ideal.div (((S.mask n ⟨k, hk⟩ : ℝ) : EReal) * (((a ⟨k, hk⟩ : ℝ) : EReal)
        * ((Real.exp (-1 / 2 * S.maha ⟨k, hk⟩ n) : ℝ) : EReal) - ((S.part a n k : ℝ) : EReal)))
      ((max (psum (S.mask n) (k + 1)) floorCount : ℝ) : EReal) = ((S.part a n (k + 1) : ℝ) : EReal) := by
  have hp : max (psum (S.mask n) (k + 1)) floorCount ≠ 0 := (lt_of_lt_of_le floor_pos (le_max_right _ _)).ne'
  rw [Ideal.div_coe hp, ← EReal.coe_mul, ← EReal.coe_sub, ← EReal.coe_mul, ← EReal.coe_mul, ← EReal.coe_add,
    ← S.mean_step a n k hk floorCount floor_le floor_pos, psum_succ _ k hk, mul_one_div]

section Trip
variable {V : Valuation τ sig (Elt Ideal)} {S : Scene} {k : ℕ} (H : At V S k) (hk : k < 128)
include H hk

/-- The trip's number, as a slice's start reads it. -/
theorem start_trip : ((V (Proc.devRef .tc main_v7_5) : IVec S_ 32) (Shape.Idx.first h_S_)).toInt = k := by
  rw [H.ctr, toInt_trip k hk]

theorem v11_at : (res_main_while0b_v11 V : Vec Ideal S1x1 .f32) (ix2 0 0) = ((S.op ⟨k, hk⟩ : ℝ) : EReal) := by
  have hc : ∀ y : Vec Ideal S1x1x1 .f32, shapeCast S1x1 y shapeCasts_S1x1x1_S1x1 (ix2 0 0) = y (ix3 0 0 0) := by
    intro y; pointwise
  exact (hc _).trans ((slice3 (d := 1) hk _ _ (start_trip H hk) _ 0).trans (H.op ⟨k, hk⟩))

theorem v12_at (a b : Fin 3) : (res_main_while0b_v12 V : Vec Ideal S1x3x3 .f32) (ix3 0 a b) = ((S.cov ⟨k, hk⟩ a b : ℝ) : EReal) := by
  have hc : ∀ y : Vec Ideal S1x1x3x3 .f32, shapeCast S1x3x3 y shapeCasts_S1x1x3x3_S1x3x3 (ix3 0 a b) = y (ix4 0 0 a b) := by
    intro y; pointwise
  exact (hc _).trans ((slice4 (d := 3) (e := 3) hk _ _ (start_trip H hk) _ a b).trans (H.cov ⟨k, hk⟩ a b))

theorem v17_at (n : Fin 80000) (a : Fin 3) : (res_main_while0b_v17 V : Vec Ideal S1x80000x3 .f32) (ix3 0 n a) = ((S.diff ⟨k, hk⟩ n a : ℝ) : EReal) := by
  have hc : ∀ (x : FVec Ideal S80000x3 .f32) (y : FVec Ideal S1x1x3 .f32),
      (subf (broadcastInDim S1x80000x3 ![1, 2] bcast_S80000x3_S1x80000x3_1_2 x) (broadcastInDim S1x80000x3 ![0, 1, 2]
        bcast_S1x1x3_S1x80000x3_0_1_2 (broadcastInDim S1x1x3 ![0, 2] bcast_S1x3_S1x1x3_0_2 (shapeCast S1x3 y shapeCasts_S1x1x3_S1x3))) : FVec Ideal S1x80000x3 .f32)
        (ix3 0 n a) = (x (ix2 n a) : EReal) - y (ix3 0 0 a) := by
    intro x y; pointwise
  refine (hc _ _).trans ?_
  rw [H.grid, Scene.diff, EReal.coe_sub]
  exact congrArg (((centre n a : ℝ) : EReal) - ·) ((slice3 (d := 3) hk _ _ (start_trip H hk) _ a).trans (H.mu ⟨k, hk⟩ a))

/-! ## The inverse of the trip's covariance -/

theorem v19_at (a : Fin 3) : (res_main_while0b_v19 V : Vec Ideal S1x3 .f32) (ix2 0 a) = ((S.cov ⟨k, hk⟩ 0 a : ℝ) : EReal) := by
  unfold res_main_while0b_v19
  pointwise
  exact v12_at H hk 0 a

theorem v21_at (a : Fin 3) : (res_main_while0b_v21 V : Vec Ideal S1x3 .f32) (ix2 0 a) = ((S.cov ⟨k, hk⟩ 1 a : ℝ) : EReal) := by
  unfold res_main_while0b_v21
  pointwise
  exact v12_at H hk 1 a

theorem v23_at (a : Fin 3) : (res_main_while0b_v23 V : Vec Ideal S1x3 .f32) (ix2 0 a) = ((S.cov ⟨k, hk⟩ 2 a : ℝ) : EReal) := by
  unfold res_main_while0b_v23
  pointwise
  exact v12_at H hk 2 a

theorem v42_at (a b : Fin 3) : (res_main_while0b_v42 V : Vec Ideal S1x3x3 .f32) (ix3 0 a b) = ((inv (S.cov ⟨k, hk⟩) a b : ℝ) : EReal) := by
  unfold res_main_while0b_v42
  pointwise [fn_main_while0b_v30, fn_main_while0b_call4_v24, fn_main_while0b_call5_v24, fn_main_while0b_call6_v24, fn_main_while0b_call7_v24,
    res_main_while0b_call4_v1, res_main_while0b_call4_v3, res_main_while0b_call4_v5, res_main_while0b_call4_v7, res_main_while0b_call4_v9, res_main_while0b_call4_v11,
    res_main_while0b_call5_v1, res_main_while0b_call5_v3, res_main_while0b_call5_v5, res_main_while0b_call5_v7, res_main_while0b_call5_v9, res_main_while0b_call5_v11,
    res_main_while0b_call6_v1, res_main_while0b_call6_v3, res_main_while0b_call6_v5, res_main_while0b_call6_v7, res_main_while0b_call6_v9, res_main_while0b_call6_v11,
    res_main_while0b_call7_v1, res_main_while0b_call7_v3, res_main_while0b_call7_v5, res_main_while0b_call7_v7, res_main_while0b_call7_v9, res_main_while0b_call7_v11,
    res_main_while0b_v34, res_main_while0b_v36]
  simp only [v12_at H hk, v19_at H hk, v21_at H hk, v23_at H hk, ← EReal.coe_mul, ← EReal.coe_sub]
  have hd : det (S.cov ⟨k, hk⟩) ≠ 0 := S.det_ne _
  rw [Splat.inv, div_eq_mul_one_div, EReal.coe_mul, ← Ideal.div_coe hd]
  refine congrArg₂ Ideal.div ?_ ?_
  · fin_cases a <;> fin_cases b <;> rfl
  · rw [det, Fin.sum_univ_three, Fin.sum_univ_three, EReal.coe_add, EReal.coe_add]
    rfl

theorem v45_at (n : Fin 80000) : (res_main_while0b_v45 V : Vec Ideal S1x80000x1 .f32) (ix3 0 n 0) = ((S.maha ⟨k, hk⟩ n : ℝ) : EReal) := by
  unfold res_main_while0b_v45
  pointwise
  simp only [v17_at H hk, v42_at H hk, Fin.sum_univ_three, ← EReal.coe_mul, ← EReal.coe_add]
  simp only [Scene.maha, quad, Fin.sum_univ_three]

theorem v48_at (n : Fin 80000) : (res_main_while0b_v48 V : Vec Ideal S1x80000x1 .f32) (ix3 0 n 0) = ((S.mask n ⟨k, hk⟩ : ℝ) : EReal) := by
  unfold res_main_while0b_v48
  pointwise
  rw [v45_at H hk, bits_four, Scene.mask]
  simp only [EReal.coe_le_coe_iff]
  by_cases h : S.maha ⟨k, hk⟩ n ≤ 4
  · rw [if_pos h, decide_eq_true h]
    show (((1#1).toNat : ℝ) : EReal) = _
    simp
  · rw [if_neg h, decide_eq_false h]
    show (((0#1).toNat : ℝ) : EReal) = _
    simp

theorem v49_at (n : Fin 80000) : (res_main_while0b_v49 V : Vec Ideal S1x80000x1 .f32) (ix3 0 n 0) = ((psum (S.mask n) (k + 1) : ℝ) : EReal) := by
  unfold res_main_while0b_v49
  pointwise
  rw [H.count, v48_at H hk, psum_succ _ k hk, EReal.coe_add]

theorem v51_at (n : Fin 80000) : (res_main_while0b_v51 V : Vec Ideal S1x80000x1 .f32) (ix3 0 n 0)
    = ((max (psum (S.mask n) (k + 1)) floorCount : ℝ) : EReal) := by
  unfold res_main_while0b_v51
  pointwise
  rw [v49_at H hk, bits_floor]
  exact (EReal.coe_strictMono.monotone.map_max).symm

theorem v54_at (n : Fin 80000) : (res_main_while0b_v54 V : Vec Ideal S1x80000x1 .f32) (ix3 0 n 0)
    = ((Real.exp (-1 / 2 * S.maha ⟨k, hk⟩ n) : ℝ) : EReal) := by
  unfold res_main_while0b_v54
  pointwise
  rw [v45_at H hk, bits_neg_half, ← EReal.coe_mul, Ideal.exp_coe]

theorem step_dens (n : Fin 80000) : (step_main_v7_6 V : Vec Ideal S1x80000x1 .f32) (ix3 0 n 0) = ((S.part S.op n (k + 1) : ℝ) : EReal) := by
  unfold step_main_v7_6
  rw [id_eq]
  pointwise
  rw [H.dens, v48_at H hk, v11_at H hk, v54_at H hk, v51_at H hk]
  exact mean_step_coe S hk _ n

theorem step_feats (n : Fin 80000) (f : Fin 16) : (step_main_v7_7 V : Vec Ideal S1x80000x16 .f32) (ix3 0 n f)
    = ((S.part (fun g => S.op g * S.ft g f) n (k + 1) : ℝ) : EReal) := by
  have hc : ∀ (d : FVec Ideal S1x80000x16 .f32) (y : FVec Ideal S1x1x16 .f32) (o : FVec Ideal S1x1 .f32) (e p c : FVec Ideal S1x80000x1 .f32),
      (addf d (Host.divf (mulf (broadcastInDim S1x80000x16 ![0, 1, 2] bcast_S1x80000x1_S1x80000x16_0_1_2 p)
        (subf (mulf (broadcastInDim S1x80000x16 ![0, 1, 2] bcast_S1x1x16_S1x80000x16_0_1_2
          (broadcastInDim S1x1x16 ![0, 2] bcast_S1x16_S1x1x16_0_2 (mulf (broadcastInDim S1x16 ![0, 1] bcast_S1x1_S1x16_0_1 o)
            (shapeCast S1x16 y shapeCasts_S1x1x16_S1x16)))) (broadcastInDim S1x80000x16 ![0, 1, 2] bcast_S1x80000x1_S1x80000x16_0_1_2 e)) d))
        (broadcastInDim S1x80000x16 ![0, 1, 2] bcast_S1x80000x1_S1x80000x16_0_1_2 c)) : FVec Ideal S1x80000x16 .f32) (ix3 0 n f)
      = (d (ix3 0 n f) : EReal) + Ideal.div (p (ix3 0 n 0) * ((o (ix2 0 0) * y (ix3 0 0 f)) * e (ix3 0 n 0) - d (ix3 0 n f))) (c (ix3 0 n 0)) := by
    intro d y o e p c; pointwise
  refine (hc _ _ _ _ _ _).trans ?_
  have hf := (slice3 (d := 16) hk (V (Proc.devRef .tc main_v7_3)) (fun a => ((![V (Proc.devRef .tc main_v7_5), constantI S_ 32 0#32,
    constantI S_ 32 0#32] : Fin 3 → (⟨S_, .i32⟩ : BufTy).Contents (Elt Ideal)) a (Shape.Idx.first h_S_)).toInt) (start_trip H hk)
    sliceFits_S128x1x16_S1x1x16 f).trans (H.ft ⟨k, hk⟩ f)
  rw [H.feats, v48_at H hk, v11_at H hk, v54_at H hk, v51_at H hk]
  refine Eq.trans (congrArg (fun x : EReal => ((S.part (fun g => S.op g * S.ft g f) n k : ℝ) : EReal)
      + Ideal.div (((S.mask n ⟨k, hk⟩ : ℝ) : EReal) * (((S.op ⟨k, hk⟩ : ℝ) : EReal) * x * ((Real.exp (-1 / 2 * S.maha ⟨k, hk⟩ n) : ℝ) : EReal)
          - ((S.part (fun g => S.op g * S.ft g f) n k : ℝ) : EReal)))
        ((max (psum (S.mask n) (k + 1)) floorCount : ℝ) : EReal)) hf) ?_
  beta_reduce
  rw [← EReal.coe_mul]
  exact mean_step_coe S hk (fun g => S.op g * S.ft g f) n

/-- One trip. -/
theorem at_step : At (STEP V) S (k + 1) where
  ctr j := by
    rw [STEP_main_v7_5]
    unfold step_main_v7_5
    refine (congrArg (· + 1#32) (H.ctr j)).trans ?_
    rw [BitVec.ofNat_add]
  mu g a := by rw [STEP_main_v7_0]; exact H.mu g a
  op g := by rw [STEP_main_v7_1]; exact H.op g
  cov g a b := by rw [STEP_main_v7_2]; exact H.cov g a b
  ft g f := by rw [STEP_main_v7_3]; exact H.ft g f
  grid n a := by rw [STEP_main_v7_4]; exact H.grid n a
  dens n := by rw [STEP_main_v7_6]; exact step_dens H hk n
  feats n f := by rw [STEP_main_v7_7]; exact step_feats H hk n f
  count n := by rw [STEP_main_v7_8]; exact v49_at H hk n

end Trip

end Cert.ReferenceIdeal.Step

end
-- ==== Proof.ReferenceValue.lean ====
/-
  The reference's results over a scene: the loop starts with empty means (`at_entry`), each trip takes in one Gaussian
  (`at_iter`), and the means over all of them are what it returns (`out_dens`, `out_feats`).
-/
module

public import proofs.«01_k».proof.Proof.ReferenceStep

@[expose] public section

set_option maxRecDepth 16384

noncomputable section

namespace Cert.ReferenceIdeal.Step

open Idealize.ShloMosaic Idealize.ShloMosaic.TcCoe Idealize.SL.Sem Idealize.ShloMosaic.StableHlo
open Cert.ReferenceIdeal Cert.ReferenceIdeal.Gen Cert.ReferenceIdeal.Value
open Splat

section Loop
variable (m : (ℓ : Loc nD τ sig) → Buf (Elt Ideal) ℓ) (c : Dev nD) {S : Scene}
variable (G : Given (m (c.tc.loc main_arg0)) (m (c.tc.loc main_arg1)) (m (c.tc.loc main_arg2)) (m (c.tc.loc main_arg3))
    (m (c.tc.loc main_arg4)) S)
include G

theorem at_entry : At (entryContents preI m c) S 0 := by
  simp only [entryContents, afterL_cons, afterL_nil, preI]
  constructor
  · intro j
    after_reads_at
    rfl
  · intro g a
    after_reads_at
    rw [id_eq]
    pointwise
    exact G.mu g a
  · intro g
    after_reads_at
    rw [id_eq]
    pointwise
    exact G.op g
  · intro g a b
    after_reads_at
    rw [id_eq]
    pointwise
    exact G.cov g a b
  · intro g f
    after_reads_at
    rw [id_eq]
    pointwise
    exact G.ft g f
  · intro n a
    after_reads_at
    exact G.grid n a
  · intro n
    after_reads_at
    rw [S.part_zero, id_eq]
    pointwise
    exact EReal.coe_zero.symm
  · intro n f
    after_reads_at
    rw [S.part_zero, id_eq]
    pointwise
    exact EReal.coe_zero.symm
  · intro n
    after_reads_at
    rw [psum_zero, id_eq]
    pointwise
    exact EReal.coe_zero.symm

theorem at_iter : ∀ k ≤ 128, At (STEP^[k] (entryContents preI m c)) S k
  | 0, _ => at_entry m c G
  | k + 1, hk => by
    rw [Function.iterate_succ_apply']
    exact at_step (at_iter k (by omega)) (by omega)

theorem out_dens : out_main_v8 (STEP^[128] (entryContents preI m c))
    = (fun j : S1x100x100x8x1.Idx => ((S.mean S.op ((j 1 : ℕ) * 800 + (j 2 : ℕ) * 8 + (j 3 : ℕ)) : ℝ) : EReal)) := by
  have H := at_iter m c G 128 le_rfl
  funext j
  idx_vars j
  unfold out_main_v8
  pointwise
  rw [H.dens, S.part_all]

theorem out_feats : out_main_v9 (STEP^[128] (entryContents preI m c))
    = (fun j : S1x100x100x8x16.Idx => ((S.mean (fun g => S.op g * S.ft g (j 4)) ((j 1 : ℕ) * 800 + (j 2 : ℕ) * 8 + (j 3 : ℕ)) : ℝ) : EReal)) := by
  have H := at_iter m c G 128 le_rfl
  funext j
  idx_vars j
  unfold out_main_v9
  pointwise
  rw [H.feats, S.part_all]

end Loop

end Cert.ReferenceIdeal.Step

end
-- ==== Proof.Value.lean ====
/-
  The value claim: where the arguments describe a scene, the kernel and the reference return the same means
  (`algebraic`).
-/
module

public import proofs.«01_k».proof.Defs
public import proofs.«01_k».proof.Proof.Gen.KernelIdeal
public import proofs.«01_k».proof.Proof.Gen.ReferenceIdeal
public import proofs.«01_k».proof.Proof.Gen.Pre_splat_inputs
public import proofs.«01_k».proof.Proof.KernelArrays
public import proofs.«01_k».proof.Proof.PreRead
public import proofs.«01_k».proof.Proof.ReferenceValue

@[expose] public section

set_option maxRecDepth 16384

noncomputable section

/-! ## The kernel's run -/

namespace Cert.KernelIdeal.Arrays

open Idealize.ShloMosaic Idealize.ShloMosaic.TcCoe Idealize.SL.Sem
open Cert.KernelIdeal Cert.KernelIdeal.Gen

/-- The kernel ends with its two results at what the operations after the region make of the region's arrays, and the
arguments unchanged. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = Pipeline.afterTail₀ cfgs (dats m) 0 (V0 m) [hostOps1] c main_v6
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    have keep := fun b hs hw => (h.1 c).2 b (Pipeline.mem_restRefs_of b hs hw)
    exact ⟨keep main_v6 (by decide) (by decide), keep main_v8 (by decide) (by decide),
      (keep main_arg0 (by decide) (by decide)).trans (W_main_arg0 m (dats m) c),
      (keep main_arg1 (by decide) (by decide)).trans (W_main_arg1 m (dats m) c),
      (keep main_arg2 (by decide) (by decide)).trans (W_main_arg2 m (dats m) c),
      (keep main_arg3 (by decide) (by decide)).trans (W_main_arg3 m (dats m) c),
      (keep main_arg4 (by decide) (by decide)).trans (W_main_arg4 m (dats m) c)⟩)
    (run_main_quiescent m ρ)

end Cert.KernelIdeal.Arrays

/-! ## Both -/

namespace Cert.Splatting

open Idealize.ShloMosaic Idealize.ShloMosaic.TcCoe Idealize.SL.Sem
open Splat

theorem algebraic : Cert.algebraic_KernelIdeal_ReferenceIdeal_pre_splat_inputs (hKernelIdeal := Cert.KernelIdeal.Gen.facts)
    (hReferenceIdeal := Cert.ReferenceIdeal.Gen.facts) (hPre_splat_inputs := Cert.Pre_splat_inputs.Gen.facts) := by
  intro m ρ m' ρ' hpre hagree
  refine ⟨_, _, Cert.KernelIdeal.Arrays.ends m ρ, ?_⟩
  refine (θ_run Cert.ReferenceIdeal.defs _ _).mono (fun _ h c => ?_) (Cert.ReferenceIdeal.Value.run (F := Ideal) m' ρ')
  obtain ⟨h0, h1, h2, h3, h4, h5, h6⟩ := hpre c
  obtain ⟨S, G⟩ := Cert.Pre_splat_inputs.Reading.given_of_pre _ _ _ _ _ h0 h1 h2 h3 h4 h5 h6
  have H := Cert.KernelIdeal.Arrays.holds m c G
  obtain ⟨a0, a1, a2, a3, a4⟩ := hagree c
  have G' : Given (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) S := by
    rw [a0, a1, a2, a3, a4]; exact G
  obtain ⟨r0, r1, rest⟩ := h c
  exact ⟨r0.trans ((Cert.ReferenceIdeal.Step.out_dens m' c G').trans (Cert.KernelIdeal.Arrays.res_dens m c H).symm),
    r1.trans ((Cert.ReferenceIdeal.Step.out_feats m' c G').trans (Cert.KernelIdeal.Arrays.res_feats m c H).symm), rest⟩

end Cert.Splatting

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_splat_inputs
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they came in; it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_splat_inputs.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  IdealRules.named_const.statement Cert.KernelIdeal.κ "mhl2e" .f32 0xBF38AA3B#32 (((-1 / 2) * (Real.log 2)⁻¹ : ℝ) : EReal) rfl,
  Cert.Splatting.algebraic⟩

end Cert.Proof

end
